-- ==== Defs.lean ====
def Pre_Lru (m : (ℓ : Loc Cert.Lru.nD Cert.Lru.τ Cert.Lru.sig) → Buf (Elt Bits) ℓ) : Prop :=
  True

def Pre_LruIdeal (m : (ℓ : Loc Cert.LruIdeal.nD Cert.LruIdeal.τ Cert.LruIdeal.sig) → Buf (Elt Ideal) ℓ) : Prop :=
  True

def Pre_LruRefIdeal (m : (ℓ : Loc Cert.LruRefIdeal.nD Cert.LruRefIdeal.τ Cert.LruRefIdeal.sig) → Buf (Elt Ideal) ℓ) : Prop :=
  True

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossRefIdeal (m : (ℓ : Loc Cert.CrossRefIdeal.nD Cert.CrossRefIdeal.τ Cert.CrossRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvIdeal_finite_weights [hPre_finite_weights : Cert.Pre_finite_weights.Facts] (m : (ℓ : Loc Cert.MemKvIdeal.nD Cert.MemKvIdeal.τ Cert.MemKvIdeal.sig) → Buf (Elt Ideal) ℓ) : Prop :=
  ∀ c : Dev Cert.MemKvIdeal.nD,
    (Cert.Pre_finite_weights.fn (F := Ideal) (m ((c.tc : Thread Cert.MemKvIdeal.nD Cert.MemKvIdeal.τ).loc Cert.MemKvIdeal.main_arg0)) (m ((c.tc : Thread Cert.MemKvIdeal.nD Cert.MemKvIdeal.τ).loc Cert.MemKvIdeal.main_arg1)) (m ((c.tc : Thread Cert.MemKvIdeal.nD Cert.MemKvIdeal.τ).loc Cert.MemKvIdeal.main_arg2)) (m ((c.tc : Thread Cert.MemKvIdeal.nD Cert.MemKvIdeal.τ).loc Cert.MemKvIdeal.main_arg3))) = (fun _ => 1#1)

def Pre_MemKvRefIdeal (m : (ℓ : Loc Cert.MemKvRefIdeal.nD Cert.MemKvRefIdeal.τ Cert.MemKvRefIdeal.sig) → Buf (Elt Ideal) ℓ) : Prop :=
  True

def Pre_MemKvRefIdeal_finite_weights [hPre_finite_weights : Cert.Pre_finite_weights.Facts] (m : (ℓ : Loc Cert.MemKvRefIdeal.nD Cert.MemKvRefIdeal.τ Cert.MemKvRefIdeal.sig) → Buf (Elt Ideal) ℓ) : Prop :=
  ∀ c : Dev Cert.MemKvRefIdeal.nD,
    (Cert.Pre_finite_weights.fn (F := Ideal) (m ((c.tc : Thread Cert.MemKvRefIdeal.nD Cert.MemKvRefIdeal.τ).loc Cert.MemKvRefIdeal.main_arg0)) (m ((c.tc : Thread Cert.MemKvRefIdeal.nD Cert.MemKvRefIdeal.τ).loc Cert.MemKvRefIdeal.main_arg1)) (m ((c.tc : Thread Cert.MemKvRefIdeal.nD Cert.MemKvRefIdeal.τ).loc Cert.MemKvRefIdeal.main_arg2)) (m ((c.tc : Thread Cert.MemKvRefIdeal.nD Cert.MemKvRefIdeal.τ).loc Cert.MemKvRefIdeal.main_arg3))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_finite_projection [hPre_finite_projection : Cert.Pre_finite_projection.Facts] (m : (ℓ : Loc Cert.ProjIdeal.nD Cert.ProjIdeal.τ Cert.ProjIdeal.sig) → Buf (Elt Ideal) ℓ) : Prop :=
  ∀ c : Dev Cert.ProjIdeal.nD,
    (Cert.Pre_finite_projection.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5))) = (fun _ => 1#1)

def Pre_ProjRefIdeal (m : (ℓ : Loc Cert.ProjRefIdeal.nD Cert.ProjRefIdeal.τ Cert.ProjRefIdeal.sig) → Buf (Elt Ideal) ℓ) : Prop :=
  True

def Pre_ProjRefIdeal_finite_projection [hPre_finite_projection : Cert.Pre_finite_projection.Facts] (m : (ℓ : Loc Cert.ProjRefIdeal.nD Cert.ProjRefIdeal.τ Cert.ProjRefIdeal.sig) → Buf (Elt Ideal) ℓ) : Prop :=
  ∀ c : Dev Cert.ProjRefIdeal.nD,
    (Cert.Pre_finite_projection.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5))) = (fun _ => 1#1)

def quiescent_Lru [hLru : Cert.Lru.Facts] : Prop :=
  ∀ (m : (ℓ : Loc Cert.Lru.nD Cert.Lru.τ Cert.Lru.sig) → Buf (Elt Bits) ℓ) (g : Dev Cert.Lru.nD → PrngReg), Pre_Lru m →
    θ_run (Cert.Lru.defs (F := Bits)) (onTc (τ := Cert.Lru.τ) (Cert.Lru.main (F := Bits))) ⟨m, fun _ => 0, g⟩ (fun r => (∀ c : Dev Cert.Lru.nD,
      r.2.mem ((c.tc : Thread Cert.Lru.nD Cert.Lru.τ).loc Cert.Lru.main_arg0) = m ((c.tc : Thread Cert.Lru.nD Cert.Lru.τ).loc Cert.Lru.main_arg0)
      ∧ r.2.mem ((c.tc : Thread Cert.Lru.nD Cert.Lru.τ).loc Cert.Lru.main_arg1) = m ((c.tc : Thread Cert.Lru.nD Cert.Lru.τ).loc Cert.Lru.main_arg1)
      ∧ r.2.mem ((c.tc : Thread Cert.Lru.nD Cert.Lru.τ).loc Cert.Lru.main_arg2) = m ((c.tc : Thread Cert.Lru.nD Cert.Lru.τ).loc Cert.Lru.main_arg2)
      ∧ r.2.mem ((c.tc : Thread Cert.Lru.nD Cert.Lru.τ).loc Cert.Lru.main_arg3) = m ((c.tc : Thread Cert.Lru.nD Cert.Lru.τ).loc Cert.Lru.main_arg3)
      ∧ r.2.mem ((c.tc : Thread Cert.Lru.nD Cert.Lru.τ).loc Cert.Lru.main_arg4) = m ((c.tc : Thread Cert.Lru.nD Cert.Lru.τ).loc Cert.Lru.main_arg4)
      ∧ r.2.mem ((c.tc : Thread Cert.Lru.nD Cert.Lru.τ).loc Cert.Lru.main_arg5) = m ((c.tc : Thread Cert.Lru.nD Cert.Lru.τ).loc Cert.Lru.main_arg5)
      ∧ r.2.mem ((c.tc : Thread Cert.Lru.nD Cert.Lru.τ).loc Cert.Lru.main_arg6) = m ((c.tc : Thread Cert.Lru.nD Cert.Lru.τ).loc Cert.Lru.main_arg6)
      ∧ r.2.mem ((c.tc : Thread Cert.Lru.nD Cert.Lru.τ).loc Cert.Lru.main_arg7) = m ((c.tc : Thread Cert.Lru.nD Cert.Lru.τ).loc Cert.Lru.main_arg7)
      ∧ r.2.mem ((c.tc : Thread Cert.Lru.nD Cert.Lru.τ).loc Cert.Lru.main_arg8) = m ((c.tc : Thread Cert.Lru.nD Cert.Lru.τ).loc Cert.Lru.main_arg8)
      ∧ r.2.mem ((c.tc : Thread Cert.Lru.nD Cert.Lru.τ).loc Cert.Lru.main_arg9) = m ((c.tc : Thread Cert.Lru.nD Cert.Lru.τ).loc Cert.Lru.main_arg9)
      ∧ r.2.mem ((c.tc : Thread Cert.Lru.nD Cert.Lru.τ).loc Cert.Lru.main_arg10) = m ((c.tc : Thread Cert.Lru.nD Cert.Lru.τ).loc Cert.Lru.main_arg10))
      ∧ r.2.sem = fun _ => 0)

def quiescent_LruIdeal [hLruIdeal : Cert.LruIdeal.Facts] : Prop :=
  ∀ (m : (ℓ : Loc Cert.LruIdeal.nD Cert.LruIdeal.τ Cert.LruIdeal.sig) → Buf (Elt Ideal) ℓ) (g : Dev Cert.LruIdeal.nD → PrngReg), Pre_LruIdeal m →
    θ_run (Cert.LruIdeal.defs (F := Ideal)) (onTc (τ := Cert.LruIdeal.τ) (Cert.LruIdeal.main (F := Ideal))) ⟨m, fun _ => 0, g⟩ (fun r => (∀ c : Dev Cert.LruIdeal.nD,
      r.2.mem ((c.tc : Thread Cert.LruIdeal.nD Cert.LruIdeal.τ).loc Cert.LruIdeal.main_arg0) = m ((c.tc : Thread Cert.LruIdeal.nD Cert.LruIdeal.τ).loc Cert.LruIdeal.main_arg0)
      ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
      ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
      ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
      ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
      ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
      ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
      ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
      ∧ r.2.mem ((c.tc : Thread Cert.LruIdeal.nD Cert.LruIdeal.τ).loc Cert.LruIdeal.main_arg8) = m ((c.tc : Thread Cert.LruIdeal.nD Cert.LruIdeal.τ).loc Cert.LruIdeal.main_arg8)
      ∧ r.2.mem ((c.tc : Thread Cert.LruIdeal.nD Cert.LruIdeal.τ).loc Cert.LruIdeal.main_arg9) = m ((c.tc : Thread Cert.LruIdeal.nD Cert.LruIdeal.τ).loc Cert.LruIdeal.main_arg9)
      ∧ r.2.mem ((c.tc : Thread Cert.LruIdeal.nD Cert.LruIdeal.τ).loc Cert.LruIdeal.main_arg10) = m ((c.tc : Thread Cert.LruIdeal.nD Cert.LruIdeal.τ).loc Cert.LruIdeal.main_arg10))
      ∧ r.2.sem = fun _ => 0)

def quiescent_LruRefIdeal [hLruRefIdeal : Cert.LruRefIdeal.Facts] : Prop :=
  ∀ (m : (ℓ : Loc Cert.LruRefIdeal.nD Cert.LruRefIdeal.τ Cert.LruRefIdeal.sig) → Buf (Elt Ideal) ℓ) (g : Dev Cert.LruRefIdeal.nD → PrngReg), Pre_LruRefIdeal m →
    θ_run (Cert.LruRefIdeal.defs (F := Ideal)) (onTc (τ := Cert.LruRefIdeal.τ) (Cert.LruRefIdeal.main (F := Ideal))) ⟨m, fun _ => 0, g⟩ (fun r => (∀ c : Dev Cert.LruRefIdeal.nD,
      r.2.mem ((c.tc : Thread Cert.LruRefIdeal.nD Cert.LruRefIdeal.τ).loc Cert.LruRefIdeal.main_arg0) = m ((c.tc : Thread Cert.LruRefIdeal.nD Cert.LruRefIdeal.τ).loc Cert.LruRefIdeal.main_arg0)
      ∧ r.2.mem ((c.tc : Thread Cert.LruRefIdeal.nD Cert.LruRefIdeal.τ).loc Cert.LruRefIdeal.main_arg1) = m ((c.tc : Thread Cert.LruRefIdeal.nD Cert.LruRefIdeal.τ).loc Cert.LruRefIdeal.main_arg1)
      ∧ r.2.mem ((c.tc : Thread Cert.LruRefIdeal.nD Cert.LruRefIdeal.τ).loc Cert.LruRefIdeal.main_arg2) = m ((c.tc : Thread Cert.LruRefIdeal.nD Cert.LruRefIdeal.τ).loc Cert.LruRefIdeal.main_arg2)
      ∧ r.2.mem ((c.tc : Thread Cert.LruRefIdeal.nD Cert.LruRefIdeal.τ).loc Cert.LruRefIdeal.main_arg3) = m ((c.tc : Thread Cert.LruRefIdeal.nD Cert.LruRefIdeal.τ).loc Cert.LruRefIdeal.main_arg3)
      ∧ r.2.mem ((c.tc : Thread Cert.LruRefIdeal.nD Cert.LruRefIdeal.τ).loc Cert.LruRefIdeal.main_arg4) = m ((c.tc : Thread Cert.LruRefIdeal.nD Cert.LruRefIdeal.τ).loc Cert.LruRefIdeal.main_arg4)
      ∧ r.2.mem ((c.tc : Thread Cert.LruRefIdeal.nD Cert.LruRefIdeal.τ).loc Cert.LruRefIdeal.main_arg5) = m ((c.tc : Thread Cert.LruRefIdeal.nD Cert.LruRefIdeal.τ).loc Cert.LruRefIdeal.main_arg5)
      ∧ r.2.mem ((c.tc : Thread Cert.LruRefIdeal.nD Cert.LruRefIdeal.τ).loc Cert.LruRefIdeal.main_arg6) = m ((c.tc : Thread Cert.LruRefIdeal.nD Cert.LruRefIdeal.τ).loc Cert.LruRefIdeal.main_arg6)
      ∧ r.2.mem ((c.tc : Thread Cert.LruRefIdeal.nD Cert.LruRefIdeal.τ).loc Cert.LruRefIdeal.main_arg7) = m ((c.tc : Thread Cert.LruRefIdeal.nD Cert.LruRefIdeal.τ).loc Cert.LruRefIdeal.main_arg7)
      ∧ r.2.mem ((c.tc : Thread Cert.LruRefIdeal.nD Cert.LruRefIdeal.τ).loc Cert.LruRefIdeal.main_arg8) = m ((c.tc : Thread Cert.LruRefIdeal.nD Cert.LruRefIdeal.τ).loc Cert.LruRefIdeal.main_arg8)
      ∧ r.2.mem ((c.tc : Thread Cert.LruRefIdeal.nD Cert.LruRefIdeal.τ).loc Cert.LruRefIdeal.main_arg9) = m ((c.tc : Thread Cert.LruRefIdeal.nD Cert.LruRefIdeal.τ).loc Cert.LruRefIdeal.main_arg9)
      ∧ r.2.mem ((c.tc : Thread Cert.LruRefIdeal.nD Cert.LruRefIdeal.τ).loc Cert.LruRefIdeal.main_arg10) = m ((c.tc : Thread Cert.LruRefIdeal.nD Cert.LruRefIdeal.τ).loc Cert.LruRefIdeal.main_arg10))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvIdeal_pre_finite_weights [hMemKvIdeal : Cert.MemKvIdeal.Facts] [hPre_finite_weights : Cert.Pre_finite_weights.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal_finite_weights m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_MemKvRefIdeal_pre_finite_weights [hMemKvRefIdeal : Cert.MemKvRefIdeal.Facts] [hPre_finite_weights : Cert.Pre_finite_weights.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal_finite_weights m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjIdeal_pre_finite_projection [hProjIdeal : Cert.ProjIdeal.Facts] [hPre_finite_projection : Cert.Pre_finite_projection.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_finite_projection m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5))
      ∧ r.2.sem = fun _ => 0)

def quiescent_ProjRefIdeal_pre_finite_projection [hProjRefIdeal : Cert.ProjRefIdeal.Facts] [hPre_finite_projection : Cert.Pre_finite_projection.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal_finite_projection m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5))
      ∧ r.2.sem = fun _ => 0)

def preserves_Lru_LruIdeal : Prop :=
  True

def preserves_Cross_CrossIdeal : Prop :=
  True

def algebraic_CrossIdeal_CrossRefIdeal [hCrossIdeal : Cert.CrossIdeal.Facts] [hCrossRefIdeal : Cert.CrossRefIdeal.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)
      ∧ m' ((c.tc : Thread Cert.CrossRefIdeal.nD Cert.CrossRefIdeal.τ).loc Cert.CrossRefIdeal.main_arg2) = m ((c.tc : Thread Cert.CrossIdeal.nD Cert.CrossIdeal.τ).loc Cert.CrossIdeal.main_arg2)) →
    ∃ (v0 : (c : Dev Cert.CrossIdeal.nD) → Buf (Elt Ideal) ((c.tc : Thread Cert.CrossIdeal.nD Cert.CrossIdeal.τ).loc Cert.CrossIdeal.main_v0)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v0) = v0 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v22) = v0 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1)
          ∧ r.2.mem ((c.tc : Thread Cert.CrossRefIdeal.nD Cert.CrossRefIdeal.τ).loc Cert.CrossRefIdeal.main_arg2) = m' ((c.tc : Thread Cert.CrossRefIdeal.nD Cert.CrossRefIdeal.τ).loc Cert.CrossRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v15)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v15) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v25) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v13)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v13) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v46) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_MemKv_MemKvIdeal : Prop :=
  True

def algebraic_MemKvIdeal_MemKvRefIdeal_pre_finite_weights [hMemKvIdeal : Cert.MemKvIdeal.Facts] [hMemKvRefIdeal : Cert.MemKvRefIdeal.Facts] [hPre_finite_weights : Cert.Pre_finite_weights.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal_finite_weights m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v18_0)) (v1 : (c : Dev Cert.MemKvIdeal.nD) → Buf (Elt Ideal) ((c.tc : Thread Cert.MemKvIdeal.nD Cert.MemKvIdeal.τ).loc Cert.MemKvIdeal.main_v18_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v18_0) = v0 c
          ∧ r.2.mem ((c.tc : Thread Cert.MemKvIdeal.nD Cert.MemKvIdeal.τ).loc Cert.MemKvIdeal.main_v18_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v33) = v0 c
          ∧ r.2.mem ((c.tc : Thread Cert.MemKvRefIdeal.nD Cert.MemKvRefIdeal.τ).loc Cert.MemKvRefIdeal.main_v34) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3))

def preserves_Proj_ProjIdeal : Prop :=
  True

def algebraic_ProjIdeal_ProjRefIdeal_pre_finite_projection [hProjIdeal : Cert.ProjIdeal.Facts] [hProjRefIdeal : Cert.ProjRefIdeal.Facts] [hPre_finite_projection : Cert.Pre_finite_projection.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal_finite_projection m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)) →
    ∃ (v0 : (c : Dev Cert.ProjIdeal.nD) → Buf (Elt Ideal) ((c.tc : Thread Cert.ProjIdeal.nD Cert.ProjIdeal.τ).loc Cert.ProjIdeal.main_v78_0)) (v1 : (c : Dev Cert.ProjIdeal.nD) → Buf (Elt Ideal) ((c.tc : Thread Cert.ProjIdeal.nD Cert.ProjIdeal.τ).loc Cert.ProjIdeal.main_v78_1)) (v2 : (c : Dev Cert.ProjIdeal.nD) → Buf (Elt Ideal) ((c.tc : Thread Cert.ProjIdeal.nD Cert.ProjIdeal.τ).loc Cert.ProjIdeal.main_v78_2)) (v3 : (c : Dev Cert.ProjIdeal.nD) → Buf (Elt Ideal) ((c.tc : Thread Cert.ProjIdeal.nD Cert.ProjIdeal.τ).loc Cert.ProjIdeal.main_v78_3)) (v4 : (c : Dev Cert.ProjIdeal.nD) → Buf (Elt Ideal) ((c.tc : Thread Cert.ProjIdeal.nD Cert.ProjIdeal.τ).loc Cert.ProjIdeal.main_v78_4)) (v5 : (c : Dev Cert.ProjIdeal.nD) → Buf (Elt Ideal) ((c.tc : Thread Cert.ProjIdeal.nD Cert.ProjIdeal.τ).loc Cert.ProjIdeal.main_v78_5)) (v6 : (c : Dev Cert.ProjIdeal.nD) → Buf (Elt Ideal) ((c.tc : Thread Cert.ProjIdeal.nD Cert.ProjIdeal.τ).loc Cert.ProjIdeal.main_v78_6)) (v7 : (c : Dev Cert.ProjIdeal.nD) → Buf (Elt Ideal) ((c.tc : Thread Cert.ProjIdeal.nD Cert.ProjIdeal.τ).loc Cert.ProjIdeal.main_v78_9)) (v8 : (c : Dev Cert.ProjIdeal.nD) → Buf (Elt Ideal) ((c.tc : Thread Cert.ProjIdeal.nD Cert.ProjIdeal.τ).loc Cert.ProjIdeal.main_v78_10)) (v9 : (c : Dev Cert.ProjIdeal.nD) → Buf (Elt Ideal) ((c.tc : Thread Cert.ProjIdeal.nD Cert.ProjIdeal.τ).loc Cert.ProjIdeal.main_v78_11)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v78_0) = v0 c
          ∧ r.2.mem ((c.tc : Thread Cert.ProjIdeal.nD Cert.ProjIdeal.τ).loc Cert.ProjIdeal.main_v78_1) = v1 c
          ∧ r.2.mem ((c.tc : Thread Cert.ProjIdeal.nD Cert.ProjIdeal.τ).loc Cert.ProjIdeal.main_v78_2) = v2 c
          ∧ r.2.mem ((c.tc : Thread Cert.ProjIdeal.nD Cert.ProjIdeal.τ).loc Cert.ProjIdeal.main_v78_3) = v3 c
          ∧ r.2.mem ((c.tc : Thread Cert.ProjIdeal.nD Cert.ProjIdeal.τ).loc Cert.ProjIdeal.main_v78_4) = v4 c
          ∧ r.2.mem ((c.tc : Thread Cert.ProjIdeal.nD Cert.ProjIdeal.τ).loc Cert.ProjIdeal.main_v78_5) = v5 c
          ∧ r.2.mem ((c.tc : Thread Cert.ProjIdeal.nD Cert.ProjIdeal.τ).loc Cert.ProjIdeal.main_v78_6) = v6 c
          ∧ r.2.mem ((c.tc : Thread Cert.ProjIdeal.nD Cert.ProjIdeal.τ).loc Cert.ProjIdeal.main_v78_9) = v7 c
          ∧ r.2.mem ((c.tc : Thread Cert.ProjIdeal.nD Cert.ProjIdeal.τ).loc Cert.ProjIdeal.main_v78_10) = v8 c
          ∧ r.2.mem ((c.tc : Thread Cert.ProjIdeal.nD Cert.ProjIdeal.τ).loc Cert.ProjIdeal.main_v78_11) = v9 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v74) = v0 c
          ∧ r.2.mem ((c.tc : Thread Cert.ProjRefIdeal.nD Cert.ProjRefIdeal.τ).loc Cert.ProjRefIdeal.main_v75) = v1 c
          ∧ r.2.mem ((c.tc : Thread Cert.ProjRefIdeal.nD Cert.ProjRefIdeal.τ).loc Cert.ProjRefIdeal.main_v76) = v2 c
          ∧ r.2.mem ((c.tc : Thread Cert.ProjRefIdeal.nD Cert.ProjRefIdeal.τ).loc Cert.ProjRefIdeal.main_v79) = v3 c
          ∧ r.2.mem ((c.tc : Thread Cert.ProjRefIdeal.nD Cert.ProjRefIdeal.τ).loc Cert.ProjRefIdeal.main_v83) = v4 c
          ∧ r.2.mem ((c.tc : Thread Cert.ProjRefIdeal.nD Cert.ProjRefIdeal.τ).loc Cert.ProjRefIdeal.main_v85) = v5 c
          ∧ r.2.mem ((c.tc : Thread Cert.ProjRefIdeal.nD Cert.ProjRefIdeal.τ).loc Cert.ProjRefIdeal.main_v86) = v6 c
          ∧ r.2.mem ((c.tc : Thread Cert.ProjRefIdeal.nD Cert.ProjRefIdeal.τ).loc Cert.ProjRefIdeal.main_v22) = v7 c
          ∧ r.2.mem ((c.tc : Thread Cert.ProjRefIdeal.nD Cert.ProjRefIdeal.τ).loc Cert.ProjRefIdeal.main_v23) = v8 c
          ∧ r.2.mem ((c.tc : Thread Cert.ProjRefIdeal.nD Cert.ProjRefIdeal.τ).loc Cert.ProjRefIdeal.main_v87) = v9 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5))

def Claim : Prop :=
  ∃ (hLru : Cert.Lru.Facts) (hLruIdeal : Cert.LruIdeal.Facts) (hLruRefIdeal : Cert.LruRefIdeal.Facts) (hCross : Cert.Cross.Facts) (hCrossIdeal : Cert.CrossIdeal.Facts) (hCrossRefIdeal : Cert.CrossRefIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hMemKv : Cert.MemKv.Facts) (hMemKvIdeal : Cert.MemKvIdeal.Facts) (hMemKvRefIdeal : Cert.MemKvRefIdeal.Facts) (hProj : Cert.Proj.Facts) (hProjIdeal : Cert.ProjIdeal.Facts) (hProjRefIdeal : Cert.ProjRefIdeal.Facts) (hPre_finite_weights : Cert.Pre_finite_weights.Facts) (hPre_finite_projection : Cert.Pre_finite_projection.Facts),
    quiescent_Lru (hLru := hLru)
    ∧ quiescent_LruIdeal (hLruIdeal := hLruIdeal)
    ∧ quiescent_LruRefIdeal (hLruRefIdeal := hLruRefIdeal)
    ∧ quiescent_Cross (hCross := hCross)
    ∧ quiescent_CrossIdeal (hCrossIdeal := hCrossIdeal)
    ∧ quiescent_CrossRefIdeal (hCrossRefIdeal := hCrossRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_MemKv (hMemKv := hMemKv)
    ∧ quiescent_MemKvIdeal (hMemKvIdeal := hMemKvIdeal)
    ∧ quiescent_MemKvIdeal_pre_finite_weights (hMemKvIdeal := hMemKvIdeal) (hPre_finite_weights := hPre_finite_weights)
    ∧ quiescent_MemKvRefIdeal (hMemKvRefIdeal := hMemKvRefIdeal)
    ∧ quiescent_MemKvRefIdeal_pre_finite_weights (hMemKvRefIdeal := hMemKvRefIdeal) (hPre_finite_weights := hPre_finite_weights)
    ∧ quiescent_Proj (hProj := hProj)
    ∧ quiescent_ProjIdeal (hProjIdeal := hProjIdeal)
    ∧ quiescent_ProjIdeal_pre_finite_projection (hProjIdeal := hProjIdeal) (hPre_finite_projection := hPre_finite_projection)
    ∧ quiescent_ProjRefIdeal (hProjRefIdeal := hProjRefIdeal)
    ∧ quiescent_ProjRefIdeal_pre_finite_projection (hProjRefIdeal := hProjRefIdeal) (hPre_finite_projection := hPre_finite_projection)
    ∧ preserves_Lru_LruIdeal
    ∧ preserves_Cross_CrossIdeal
    ∧ algebraic_CrossIdeal_CrossRefIdeal (hCrossIdeal := hCrossIdeal) (hCrossRefIdeal := hCrossRefIdeal)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_MemKv_MemKvIdeal
    ∧ algebraic_MemKvIdeal_MemKvRefIdeal_pre_finite_weights (hMemKvIdeal := hMemKvIdeal) (hMemKvRefIdeal := hMemKvRefIdeal) (hPre_finite_weights := hPre_finite_weights)
    ∧ preserves_Proj_ProjIdeal
    ∧ algebraic_ProjIdeal_ProjRefIdeal_pre_finite_projection (hProjIdeal := hProjIdeal) (hProjRefIdeal := hProjRefIdeal) (hPre_finite_projection := hPre_finite_projection)
-- ==== Pre_finite_projection.lean ====
abbrev S4x8192x1024 : Shape := ⟨3, ![4, 8192, 1024]⟩
abbrev S1x1024 : Shape := ⟨2, ![1, 1024]⟩
abbrev S1x1024x6728 : Shape := ⟨3, ![1, 1024, 6728]⟩
abbrev S1x64 : Shape := ⟨2, ![1, 64]⟩
abbrev S1x128 : Shape := ⟨2, ![1, 128]⟩
abbrev S_ : Shape := ⟨0, ![]⟩
abbrev S1x1024x1 : Shape := ⟨3, ![1, 1024, 1]⟩

class Facts : Prop where
  bcast_S_S1x1024x6728 : S_.BroadcastsInDim S1x1024x6728 (![] : Fin 0 → Fin S1x1024x6728.rank)
  bcast_S_S1x1024 : S_.BroadcastsInDim S1x1024 (![] : Fin 0 → Fin S1x1024.rank)
  bcast_S1x1024_S1x1024x1_0_1 : S1x1024.BroadcastsInDim S1x1024x1 (![0, 1] : Fin 2 → Fin S1x1024x1.rank)
  bcast_S1x1024x1_S1x1024x6728_0_1_2 : S1x1024x1.BroadcastsInDim S1x1024x6728 (![0, 1, 2] : Fin 3 → Fin S1x1024x6728.rank)

variable [Facts]

def fn {F : FTy → Type} [FloatOps F] (main_arg0 : FVec F S4x8192x1024 .f32) (main_arg1 : FVec F S1x1024 .f32) (main_arg2 : FVec F S1x1024x6728 .f32) (main_arg3 : FVec F S1x64 .f32) (main_arg4 : FVec F S1x64 .f32) (main_arg5 : FVec F S1x128 .f32) : IVec S1x1024x6728 1 :=
  let main_v0 : FVec F S1x1024x6728 .f32 := Host.absf main_arg2
  let main_cst : FVec F S_ .f32 := constant S_ .f32 0x7F800000#32
  let main_v1 : FVec F S1x1024x6728 .f32 := broadcastInDim S1x1024x6728 ![] bcast_S_S1x1024x6728 main_cst
  let main_v2 : IVec S1x1024x6728 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : IVec S1x1024x1 1 := broadcastInDim S1x1024x1 ![0, 1] bcast_S1x1024_S1x1024x1_0_1 main_v5
  let main_v7 : IVec S1x1024x6728 1 := broadcastInDim S1x1024x6728 ![0, 1, 2] bcast_S1x1024x1_S1x1024x6728_0_1_2 main_v6
  let main_v8 : IVec S1x1024x6728 1 := andi main_v2 main_v7
  main_v8
-- ==== Pre_finite_weights.lean ====
abbrev S4x256x1024 : Shape := ⟨3, ![4, 256, 1024]⟩
abbrev S1x1024 : Shape := ⟨2, ![1, 1024]⟩
abbrev S1x1024x1024 : Shape := ⟨3, ![1, 1024, 1024]⟩
abbrev S1x128 : Shape := ⟨2, ![1, 128]⟩
abbrev S_ : Shape := ⟨0, ![]⟩
abbrev S1x1024x1 : Shape := ⟨3, ![1, 1024, 1]⟩

class Facts : Prop where
  bcast_S_S1x1024x1024 : S_.BroadcastsInDim S1x1024x1024 (![] : Fin 0 → Fin S1x1024x1024.rank)
  bcast_S_S1x1024 : S_.BroadcastsInDim S1x1024 (![] : Fin 0 → Fin S1x1024.rank)
  bcast_S1x1024_S1x1024x1_0_1 : S1x1024.BroadcastsInDim S1x1024x1 (![0, 1] : Fin 2 → Fin S1x1024x1.rank)
  bcast_S1x1024x1_S1x1024x1024_0_1_2 : S1x1024x1.BroadcastsInDim S1x1024x1024 (![0, 1, 2] : Fin 3 → Fin S1x1024x1024.rank)

variable [Facts]

def fn {F : FTy → Type} [FloatOps F] (main_arg0 : FVec F S4x256x1024 .f32) (main_arg1 : FVec F S1x1024 .f32) (main_arg2 : FVec F S1x1024x1024 .f32) (main_arg3 : FVec F S1x128 .f32) : IVec S1x1024x1024 1 :=
  let main_v0 : FVec F S1x1024x1024 .f32 := Host.absf main_arg2
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : IVec S1x1024x1 1 := broadcastInDim S1x1024x1 ![0, 1] bcast_S1x1024_S1x1024x1_0_1 main_v5
  let main_v7 : IVec S1x1024x1024 1 := broadcastInDim S1x1024x1024 ![0, 1, 2] bcast_S1x1024x1_S1x1024x1024_0_1_2 main_v6
  let main_v8 : IVec S1x1024x1024 1 := andi main_v2 main_v7
  main_v8
-- ==== Lru.lean ====
abbrev S4x8192x512 : Shape := ⟨3, ![4, 8192, 512]⟩
abbrev S4x3x512 : Shape := ⟨3, ![4, 3, 512]⟩
abbrev S4x512 : Shape := ⟨2, ![4, 512]⟩
abbrev S1x4x512 : Shape := ⟨3, ![1, 4, 512]⟩
abbrev S1x512 : Shape := ⟨2, ![1, 512]⟩
abbrev S1x8x64x64 : Shape := ⟨4, ![1, 8, 64, 64]⟩
abbrev S512 : Shape := ⟨1, ![512]⟩
abbrev S8x64x64 : Shape := ⟨3, ![8, 64, 64]⟩
abbrev S8x8 : Shape := ⟨2, ![8, 8]⟩
abbrev S_ : Shape := ⟨0, ![]⟩
abbrev S8x1x8x1 : Shape := ⟨4, ![8, 1, 8, 1]⟩
abbrev S8x64x1x64 : Shape := ⟨4, ![8, 64, 1, 64]⟩
abbrev S8x64x8x64 : Shape := ⟨4, ![8, 64, 8, 64]⟩
abbrev S512x512 : Shape := ⟨2, ![512, 512]⟩
abbrev S4x5x512 : Shape := ⟨3, ![4, 5, 512]⟩
abbrev S4x8x512 : Shape := ⟨3, ![4, 8, 512]⟩
abbrev S4x7x512 : Shape := ⟨3, ![4, 7, 512]⟩
abbrev S4x1x512 : Shape := ⟨3, ![4, 1, 512]⟩
abbrev S1x256x512 : Shape := ⟨3, ![1, 256, 512]⟩
abbrev S1x8x512 : Shape := ⟨3, ![1, 8, 512]⟩
abbrev S8x512 : Shape := ⟨2, ![8, 512]⟩
abbrev S264x512 : Shape := ⟨2, ![264, 512]⟩
abbrev S256x512 : Shape := ⟨2, ![256, 512]⟩

abbrev nBuf : Space → Nat
  | .hbm => 60
  | .vmem => 24
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x3x512, .f32⟩
  | .hbm, ⟨3, _⟩ => ⟨S4x512, .f32⟩
  | .hbm, ⟨4, _⟩ => ⟨S1x4x512, .f32⟩
  | .hbm, ⟨5, _⟩ => ⟨S1x512, .f32⟩
  | .hbm, ⟨6, _⟩ => ⟨S1x8x64x64, .f32⟩
  | .hbm, ⟨7, _⟩ => ⟨S1x512, .f32⟩
  | .hbm, ⟨8, _⟩ => ⟨S1x8x64x64, .f32⟩
  | .hbm, ⟨9, _⟩ => ⟨S1x512, .f32⟩
  | .hbm, ⟨10, _⟩ => ⟨S1x512, .f32⟩
  | .hbm, ⟨11, _⟩ => ⟨S4x512, .f32⟩
  | .hbm, ⟨12, _⟩ => ⟨S512, .f32⟩
  | .hbm, ⟨13, _⟩ => ⟨S8x64x64, .f32⟩
  | .hbm, ⟨14, _⟩ => ⟨S512, .f32⟩
  | .hbm, ⟨15, _⟩ => ⟨S8x64x64, .f32⟩
  | .hbm, ⟨16, _⟩ => ⟨S512, .f32⟩
  | .hbm, ⟨17, _⟩ => ⟨S512, .f32⟩
  | .hbm, ⟨18, _⟩ => ⟨S1x512, .f32⟩
  | .hbm, ⟨19, _⟩ => ⟨S8x8, .i32⟩
  | .hbm, ⟨20, _⟩ => ⟨S8x8, .i32⟩
  | .hbm, ⟨21, _⟩ => ⟨S_, .i32⟩
  | .hbm, ⟨22, _⟩ => ⟨S8x8, .i32⟩
  | .hbm, ⟨23, _⟩ => ⟨S8x8, .i32⟩
  | .hbm, ⟨24, _⟩ => ⟨S8x8, .i1⟩
  | .hbm, ⟨25, _⟩ => ⟨S8x8, .f32⟩
  | .hbm, ⟨26, _⟩ => ⟨S8x1x8x1, .f32⟩
  | .hbm, ⟨27, _⟩ => ⟨S8x64x1x64, .f32⟩
  | .hbm, ⟨28, _⟩ => ⟨S8x64x8x64, .f32⟩
  | .hbm, ⟨29, _⟩ => ⟨S8x64x8x64, .f32⟩
  | .hbm, ⟨30, _⟩ => ⟨S8x64x8x64, .f32⟩
  | .hbm, ⟨31, _⟩ => ⟨S512x512, .f32⟩
  | .hbm, ⟨32, _⟩ => ⟨S512x512, .bf16⟩
  | .hbm, ⟨33, _⟩ => ⟨S1x512, .f32⟩
  | .hbm, ⟨34, _⟩ => ⟨S8x8, .i32⟩
  | .hbm, ⟨35, _⟩ => ⟨S8x8, .i32⟩
  | .hbm, ⟨36, _⟩ => ⟨S_, .i32⟩
  | .hbm, ⟨37, _⟩ => ⟨S8x8, .i32⟩
  | .hbm, ⟨38, _⟩ => ⟨S8x8, .i32⟩
  | .hbm, ⟨39, _⟩ => ⟨S8x8, .i1⟩
  | .hbm, ⟨40, _⟩ => ⟨S8x8, .f32⟩
  | .hbm, ⟨41, _⟩ => ⟨S8x1x8x1, .f32⟩
  | .hbm, ⟨42, _⟩ => ⟨S8x64x1x64, .f32⟩
  | .hbm, ⟨43, _⟩ => ⟨S8x64x8x64, .f32⟩
  | .hbm, ⟨44, _⟩ => ⟨S8x64x8x64, .f32⟩
  | .hbm, ⟨45, _⟩ => ⟨S8x64x8x64, .f32⟩
  | .hbm, ⟨46, _⟩ => ⟨S512x512, .f32⟩
  | .hbm, ⟨47, _⟩ => ⟨S512x512, .bf16⟩
  | .hbm, ⟨48, _⟩ => ⟨S1x512, .f32⟩
  | .hbm, ⟨49, _⟩ => ⟨S1x512, .f32⟩
  | .hbm, ⟨50, _⟩ => ⟨S_, .f32⟩
  | .hbm, ⟨51, _⟩ => ⟨S4x5x512, .f32⟩
  | .hbm, ⟨52, _⟩ => ⟨S4x8x512, .f32⟩
  | .hbm, ⟨53, _⟩ => ⟨S_, .f32⟩
  | .hbm, ⟨54, _⟩ => ⟨S4x7x512, .f32⟩
  | .hbm, ⟨55, _⟩ => ⟨S4x1x512, .f32⟩
  | .hbm, ⟨56, _⟩ => ⟨S4x8x512, .f32⟩
  | .hbm, ⟨57, _⟩ => ⟨S4x8192x512, .bf16⟩
  | .hbm, ⟨58, _⟩ => ⟨S4x8x512, .f32⟩
  | .hbm, ⟨59, _⟩ => ⟨S4x8x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x8x512, .f32⟩
  | .local _ .vmem, ⟨5, _⟩ => ⟨S1x8x512, .f32⟩
  | .local _ .vmem, ⟨6, _⟩ => ⟨S1x8x512, .f32⟩
  | .local _ .vmem, ⟨7, _⟩ => ⟨S1x8x512, .f32⟩
  | .local _ .vmem, ⟨8, _⟩ => ⟨S4x512, .f32⟩
  | .local _ .vmem, ⟨9, _⟩ => ⟨S1x512, .f32⟩
  | .local _ .vmem, ⟨10, _⟩ => ⟨S512x512, .bf16⟩
  | .local _ .vmem, ⟨11, _⟩ => ⟨S1x512, .f32⟩
  | .local _ .vmem, ⟨12, _⟩ => ⟨S512x512, .bf16⟩
  | .local _ .vmem, ⟨13, _⟩ => ⟨S1x512, .f32⟩
  | .local _ .vmem, ⟨14, _⟩ => ⟨S1x512, .f32⟩
  | .local _ .vmem, ⟨15, _⟩ => ⟨S1x256x512, .bf16⟩
  | .local _ .vmem, ⟨16, _⟩ => ⟨S1x256x512, .bf16⟩
  | .local _ .vmem, ⟨17, _⟩ => ⟨S1x8x512, .f32⟩
  | .local _ .vmem, ⟨18, _⟩ => ⟨S1x8x512, .f32⟩
  | .local _ .vmem, ⟨19, _⟩ => ⟨S1x8x512, .f32⟩
  | .local _ .vmem, ⟨20, _⟩ => ⟨S1x8x512, .f32⟩
  | .local _ .vmem, ⟨21, _⟩ => ⟨S8x512, .f32⟩
  | .local _ .vmem, ⟨22, _⟩ => ⟨S8x512, .f32⟩
  | .local _ .vmem, ⟨23, _⟩ => ⟨S264x512, .f32⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst : Ref sig .tc := ⟨.hbm, 50, rfl⟩
abbrev main_v37 : Ref sig .tc := ⟨.hbm, 51, rfl⟩
abbrev main_v38 : Ref sig .tc := ⟨.hbm, 52, rfl⟩
abbrev main_cst_1 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42_0 : Ref sig .tc := ⟨.hbm, 57, rfl⟩
abbrev main_v42_1 : Ref sig .tc := ⟨.hbm, 58, rfl⟩
abbrev main_v42_2 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== LruRefIdeal.lean ====
abbrev S4x8192x512 : Shape := ⟨3, ![4, 8192, 512]⟩
abbrev S4x3x512 : Shape := ⟨3, ![4, 3, 512]⟩
abbrev S4x512 : Shape := ⟨2, ![4, 512]⟩
abbrev S1x4x512 : Shape := ⟨3, ![1, 4, 512]⟩
abbrev S1x512 : Shape := ⟨2, ![1, 512]⟩
abbrev S1x8x64x64 : Shape := ⟨4, ![1, 8, 64, 64]⟩
abbrev S4x8195x512 : Shape := ⟨3, ![4, 8195, 512]⟩
abbrev S512 : Shape := ⟨1, ![512]⟩
abbrev S1x1x512 : Shape := ⟨3, ![1, 1, 512]⟩
abbrev S4x8192x8x64 : Shape := ⟨4, ![4, 8192, 8, 64]⟩
abbrev S8x64x64 : Shape := ⟨3, ![8, 64, 64]⟩
abbrev S8x64x4x8192 : Shape := ⟨4, ![8, 64, 4, 8192]⟩
abbrev S_ : Shape := ⟨0, ![]⟩
abbrev S4x1x512 : Shape := ⟨3, ![4, 1, 512]⟩
abbrev S4x8x512 : Shape := ⟨3, ![4, 8, 512]⟩

abbrev nBuf : Space → Nat
  | .hbm => 204
  | .vmem => 0
  | .smem => 0
  | _ => 0

abbrev hbmTy0_0 (i : Nat) : BufTy := match i % 128 with
  | 0 => ⟨S4x8192x512, .f32⟩
  | 1 => ⟨S4x8192x512, .f32⟩
  | 2 => ⟨S4x3x512, .f32⟩
  | 3 => ⟨S4x512, .f32⟩
  | 4 => ⟨S1x4x512, .f32⟩
  | 5 => ⟨S1x512, .f32⟩
  | 6 => ⟨S1x8x64x64, .f32⟩
  | 7 => ⟨S1x512, .f32⟩
  | 8 => ⟨S1x8x64x64, .f32⟩
  | 9 => ⟨S1x512, .f32⟩
  | 10 => ⟨S1x512, .f32⟩
  | 11 => ⟨S4x8195x512, .f32⟩
  | 12 => ⟨S512, .f32⟩
  | 13 => ⟨S4x8192x512, .f32⟩
  | 14 => ⟨S1x1x512, .f32⟩
  | 15 => ⟨S512, .f32⟩
  | 16 => ⟨S1x1x512, .f32⟩
  | 17 => ⟨S4x8192x512, .f32⟩
  | 18 => ⟨S4x8192x512, .f32⟩
  | 19 => ⟨S1x1x512, .f32⟩
  | 20 => ⟨S4x8192x512, .f32⟩
  | 21 => ⟨S4x8192x512, .f32⟩
  | 22 => ⟨S4x8192x512, .f32⟩
  | 23 => ⟨S1x1x512, .f32⟩
  | 24 => ⟨S512, .f32⟩
  | 25 => ⟨S1x1x512, .f32⟩
  | 26 => ⟨S4x8192x512, .f32⟩
  | 27 => ⟨S4x8192x512, .f32⟩
  | 28 => ⟨S4x8192x512, .f32⟩
  | 29 => ⟨S4x8192x512, .f32⟩
  | 30 => ⟨S1x1x512, .f32⟩
  | 31 => ⟨S512, .f32⟩
  | 32 => ⟨S1x1x512, .f32⟩
  | 33 => ⟨S4x8192x512, .f32⟩
  | 34 => ⟨S4x8192x512, .f32⟩
  | 35 => ⟨S4x8192x512, .f32⟩
  | 36 => ⟨S4x8192x512, .f32⟩
  | 37 => ⟨S1x1x512, .f32⟩
  | 38 => ⟨S512, .f32⟩
  | 39 => ⟨S1x1x512, .f32⟩
  | 40 => ⟨S4x8192x512, .f32⟩
  | 41 => ⟨S4x8192x512, .f32⟩
  | 42 => ⟨S4x8192x512, .f32⟩
  | 43 => ⟨S4x8192x8x64, .f32⟩
  | 44 => ⟨S8x64x64, .f32⟩
  | 45 => ⟨S8x64x4x8192, .f32⟩
  | 46 => ⟨S4x8192x8x64, .f32⟩
  | 47 => ⟨S4x8192x512, .f32⟩
  | 48 => ⟨S512, .f32⟩
  | 49 => ⟨S1x1x512, .f32⟩
  | 50 => ⟨S4x8192x512, .f32⟩
  | 51 => ⟨S4x8192x512, .f32⟩
  | 52 => ⟨S4x8192x512, .f32⟩
  | 53 => ⟨S4x8192x512, .f32⟩
  | 54 => ⟨S_, .f32⟩
  | 55 => ⟨S4x8192x512, .f32⟩
  | 56 => ⟨S4x8192x512, .f32⟩
  | 57 => ⟨S_, .f32⟩
  | 58 => ⟨S4x8192x512, .f32⟩
  | 59 => ⟨S4x8192x512, .f32⟩
  | 60 => ⟨S8x64x64, .f32⟩
  | 61 => ⟨S8x64x4x8192, .f32⟩
  | 62 => ⟨S4x8192x8x64, .f32⟩
  | 63 => ⟨S4x8192x512, .f32⟩
  | 64 => ⟨S512, .f32⟩
  | 65 => ⟨S1x1x512, .f32⟩
  | 66 => ⟨S4x8192x512, .f32⟩
  | 67 => ⟨S4x8192x512, .f32⟩
  | 68 => ⟨S4x8192x512, .f32⟩
  | 69 => ⟨S4x8192x512, .f32⟩
  | 70 => ⟨S_, .f32⟩
  | 71 => ⟨S4x8192x512, .f32⟩
  | 72 => ⟨S4x8192x512, .f32⟩
  | 73 => ⟨S_, .f32⟩
  | 74 => ⟨S4x8192x512, .f32⟩
  | 75 => ⟨S4x8192x512, .f32⟩
  | 76 => ⟨S_, .f32⟩
  | 77 => ⟨S4x8192x512, .f32⟩
  | 78 => ⟨S4x8192x512, .f32⟩
  | 79 => ⟨S512, .f32⟩
  | 80 => ⟨S512, .f32⟩
  | 81 => ⟨S_, .f32⟩
  | 82 => ⟨S512, .f32⟩
  | 83 => ⟨S512, .f32⟩
  | 84 => ⟨S512, .f32⟩
  | 85 => ⟨S512, .f32⟩
  | 86 => ⟨S512, .i1⟩
  | 87 => ⟨S512, .f32⟩
  | 88 => ⟨S512, .f32⟩
  | 89 => ⟨S512, .f32⟩
  | 90 => ⟨S512, .f32⟩
  | 91 => ⟨S512, .f32⟩
  | 92 => ⟨S512, .f32⟩
  | 93 => ⟨S512, .f32⟩
  | 94 => ⟨S512, .f32⟩
  | 95 => ⟨S1x1x512, .f32⟩
  | 96 => ⟨S4x8192x512, .f32⟩
  | 97 => ⟨S4x8192x512, .f32⟩
  | 98 => ⟨S4x8192x512, .f32⟩
  | 99 => ⟨S_, .f32⟩
  | 100 => ⟨S4x8192x512, .f32⟩
  | 101 => ⟨S4x8192x512, .f32⟩
  | 102 => ⟨S4x8192x512, .f32⟩
  | 103 => ⟨S4x8192x512, .f32⟩
  | 104 => ⟨S4x8192x512, .f32⟩
  | 105 => ⟨S4x8192x512, .f32⟩
  | 106 => ⟨S4x8192x512, .f32⟩
  | 107 => ⟨S_, .f32⟩
  | 108 => ⟨S4x8192x512, .f32⟩
  | 109 => ⟨S_, .i32⟩
  | 110 => ⟨S_, .i32⟩
  | 111 => ⟨S4x8192x512, .f32⟩
  | 112 => ⟨S4x8192x512, .f32⟩
  | 113 => ⟨S_, .i32⟩
  | 114 => ⟨S_, .i32⟩
  | 115 => ⟨S4x512, .f32⟩
  | 116 => ⟨S4x8192x512, .f32⟩
  | 117 => ⟨S_, .i32⟩
  | 118 => ⟨S_, .i1⟩
  | 119 => ⟨S_, .i32⟩
  | 120 => ⟨S_, .i32⟩
  | 121 => ⟨S_, .i32⟩
  | 122 => ⟨S_, .i32⟩
  | 123 => ⟨S_, .i32⟩
  | 124 => ⟨S_, .i1⟩
  | 125 => ⟨S_, .i32⟩
  | 126 => ⟨S_, .i32⟩
  | 127 => ⟨S_, .i32⟩
  | _ => ⟨S4x8192x512, .f32⟩

abbrev hbmTy0_1 (i : Nat) : BufTy := match i % 128 with
  | 0 => ⟨S_, .i32⟩
  | 1 => ⟨S_, .i32⟩
  | 2 => ⟨S_, .i32⟩
  | 3 => ⟨S_, .i1⟩
  | 4 => ⟨S_, .i32⟩
  | 5 => ⟨S_, .i32⟩
  | 6 => ⟨S_, .i32⟩
  | 7 => ⟨S_, .i32⟩
  | 8 => ⟨S_, .i32⟩
  | 9 => ⟨S_, .i1⟩
  | 10 => ⟨S_, .i32⟩
  | 11 => ⟨S_, .i32⟩
  | 12 => ⟨S_, .i32⟩
  | 13 => ⟨S_, .i32⟩
  | 14 => ⟨S_, .i32⟩
  | 15 => ⟨S4x1x512, .f32⟩
  | 16 => ⟨S4x512, .f32⟩
  | 17 => ⟨S4x512, .f32⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S_, .i32⟩
  | 40 => ⟨S4x1x512, .f32⟩
  | 41 => ⟨S4x512, .f32⟩
  | 42 => ⟨S4x512, .f32⟩
  | 43 => ⟨S4x1x512, .f32⟩
  | 44 => ⟨S_, .i32⟩
  | 45 => ⟨S_, .i1⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S4x8192x512, .f32⟩
  | 53 => ⟨S_, .i32⟩
  | 54 => ⟨S_, .i32⟩
  | 55 => ⟨S4x8192x512, .f32⟩
  | 56 => ⟨S4x8192x512, .f32⟩
  | 57 => ⟨S_, .f32⟩
  | 58 => ⟨S4x8192x512, .f32⟩
  | 59 => ⟨S4x8192x512, .f32⟩
  | 60 => ⟨S4x8192x512, .f32⟩
  | 61 => ⟨S_, .f32⟩
  | 62 => ⟨S4x8192x512, .f32⟩
  | 63 => ⟨S4x8192x512, .f32⟩
  | 64 => ⟨S4x8192x512, .f32⟩
  | 65 => ⟨S_, .f32⟩
  | 66 => ⟨S4x8192x512, .f32⟩
  | 67 => ⟨S4x8192x512, .f32⟩
  | 68 => ⟨S_, .f32⟩
  | 69 => ⟨S4x8192x512, .f32⟩
  | 70 => ⟨S4x8192x512, .f32⟩
  | 71 => ⟨S4x8192x512, .f32⟩
  | 72 => ⟨S4x8192x512, .f32⟩
  | 73 => ⟨S4x8192x512, .bf16⟩
  | 74 => ⟨S4x8x512, .f32⟩
  | 75 => ⟨S4x8x512, .f32⟩
  | _ => ⟨S4x8192x512, .f32⟩

abbrev hbmTy (i : Nat) : BufTy := match i / 128 with
  | 0 => hbmTy0_0 i
  | 1 => hbmTy0_1 i
  | _ => ⟨S4x8192x512, .f32⟩

abbrev bufTy : (tb : Table) → Fin (tcTables nBuf tb) → BufTy
  | .hbm, ⟨i, _⟩ => hbmTy i
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst : Ref sig .tc := ⟨.hbm, 54, rfl⟩
abbrev main_v43 : Ref sig .tc := ⟨.hbm, 55, rfl⟩
abbrev main_v44 : Ref sig .tc := ⟨.hbm, 56, rfl⟩
abbrev main_cst_0 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_1 : Ref sig .tc := ⟨.hbm, 70, rfl⟩
abbrev main_v57 : Ref sig .tc := ⟨.hbm, 71, rfl⟩
abbrev main_v58 : Ref sig .tc := ⟨.hbm, 72, rfl⟩
abbrev main_cst_2 : Ref sig .tc := ⟨.hbm, 73, rfl⟩
abbrev main_v59 : Ref sig .tc := ⟨.hbm, 74, rfl⟩
abbrev main_v60 : Ref sig .tc := ⟨.hbm, 75, rfl⟩
abbrev main_cst_3 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_call0_cst : Ref sig .tc := ⟨.hbm, 81, rfl⟩
abbrev main_call0_v0 : Ref sig .tc := ⟨.hbm, 82, rfl⟩
abbrev main_call0_v1 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_call0_v5 : Ref sig .tc := ⟨.hbm, 87, rfl⟩
abbrev main_call0_v6 : Ref sig .tc := ⟨.hbm, 88, rfl⟩
abbrev main_call0_v7 : Ref sig .tc := ⟨.hbm, 89, rfl⟩
abbrev main_call0_v8 : Ref sig .tc := ⟨.hbm, 90, rfl⟩
abbrev main_call0_v9 : Ref sig .tc := ⟨.hbm, 91, rfl⟩
abbrev main_call0_v10 : Ref sig .tc := ⟨.hbm, 92, rfl⟩
abbrev main_call0_v11 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_4 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_5 : Ref sig .tc := ⟨.hbm, 107, rfl⟩
abbrev main_v77 : Ref sig .tc := ⟨.hbm, 108, rfl⟩
abbrev main_c : Ref sig .tc := ⟨.hbm, 109, rfl⟩
abbrev main_c_6 : Ref sig .tc := ⟨.hbm, 110, rfl⟩
abbrev main_v78_0 : Ref sig .tc := ⟨.hbm, 111, rfl⟩
abbrev main_v78_1 : Ref sig .tc := ⟨.hbm, 112, rfl⟩
abbrev main_v78_2 : Ref sig .tc := ⟨.hbm, 113, rfl⟩
abbrev main_v78_3 : Ref sig .tc := ⟨.hbm, 114, rfl⟩
abbrev main_v78_4 : Ref sig .tc := ⟨.hbm, 115, rfl⟩
abbrev main_v78_5 : Ref sig .tc := ⟨.hbm, 116, rfl⟩
abbrev main_while0c_c_16 : Ref sig .tc := ⟨.hbm, 117, rfl⟩
abbrev main_while0c_v96 : Ref sig .tc := ⟨.hbm, 118, rfl⟩
abbrev main_while0b_c_16 : Ref sig .tc := ⟨.hbm, 119, rfl⟩
abbrev main_while0b_v96 : Ref sig .tc := ⟨.hbm, 120, rfl⟩
abbrev main_while0b_v97 : Ref sig .tc := ⟨.hbm, 121, rfl⟩
abbrev main_while0b_c_17 : Ref sig .tc := ⟨.hbm, 122, rfl⟩
abbrev main_while0b_c_18 : Ref sig .tc := ⟨.hbm, 123, rfl⟩
abbrev main_while0b_v98 : Ref sig .tc := ⟨.hbm, 124, rfl⟩
abbrev main_while0b_c_19 : Ref sig .tc := ⟨.hbm, 125, rfl⟩
abbrev main_while0b_c_20 : Ref sig .tc := ⟨.hbm, 126, rfl⟩
abbrev main_while0b_v99 : Ref sig .tc := ⟨.hbm, 127, rfl⟩
abbrev main_while0b_c_21 : Ref sig .tc := ⟨.hbm, 128, rfl⟩
abbrev main_while0b_v100 : Ref sig .tc := ⟨.hbm, 129, rfl⟩
abbrev main_while0b_c_22 : Ref sig .tc := ⟨.hbm, 130, rfl⟩
abbrev main_while0b_v101 : Ref sig .tc := ⟨.hbm, 131, rfl⟩
abbrev main_while0b_c_23 : Ref sig .tc := ⟨.hbm, 132, rfl⟩
abbrev main_while0b_v102 : Ref sig .tc := ⟨.hbm, 133, rfl⟩
abbrev main_while0b_v103 : Ref sig .tc := ⟨.hbm, 134, rfl⟩
abbrev main_while0b_c_24 : Ref sig .tc := ⟨.hbm, 135, rfl⟩
abbrev main_while0b_c_25 : Ref sig .tc := ⟨.hbm, 136, rfl⟩
abbrev main_while0b_v104 : Ref sig .tc := ⟨.hbm, 137, rfl⟩
abbrev main_while0b_c_26 : Ref sig .tc := ⟨.hbm, 138, rfl⟩
abbrev main_while0b_c_27 : Ref sig .tc := ⟨.hbm, 139, rfl⟩
abbrev main_while0b_v105 : Ref sig .tc := ⟨.hbm, 140, rfl⟩
abbrev main_while0b_c_28 : Ref sig .tc := ⟨.hbm, 141, rfl⟩
abbrev main_while0b_v106 : Ref sig .tc := ⟨.hbm, 142, rfl⟩
abbrev main_while0b_v107 : Ref sig .tc := ⟨.hbm, 143, rfl⟩
abbrev main_while0b_v108 : Ref sig .tc := ⟨.hbm, 144, rfl⟩
abbrev main_while0b_v109 : Ref sig .tc := ⟨.hbm, 145, rfl⟩
abbrev main_while0b_v110 : Ref sig .tc := ⟨.hbm, 146, rfl⟩
abbrev main_while0b_c_29 : Ref sig .tc := ⟨.hbm, 147, rfl⟩
abbrev main_while0b_c_30 : Ref sig .tc := ⟨.hbm, 148, rfl⟩
abbrev main_while0b_v111 : Ref sig .tc := ⟨.hbm, 149, rfl⟩
abbrev main_while0b_c_31 : Ref sig .tc := ⟨.hbm, 150, rfl⟩
abbrev main_while0b_c_32 : Ref sig .tc := ⟨.hbm, 151, rfl⟩
abbrev main_while0b_v112 : Ref sig .tc := ⟨.hbm, 152, rfl⟩
abbrev main_while0b_c_33 : Ref sig .tc := ⟨.hbm, 153, rfl⟩
abbrev main_while0b_v113 : Ref sig .tc := ⟨.hbm, 154, rfl⟩
abbrev main_while0b_c_34 : Ref sig .tc := ⟨.hbm, 155, rfl⟩
abbrev main_while0b_v114 : Ref sig .tc := ⟨.hbm, 156, rfl⟩
abbrev main_while0b_c_35 : Ref sig .tc := ⟨.hbm, 157, rfl⟩
abbrev main_while0b_v115 : Ref sig .tc := ⟨.hbm, 158, rfl⟩
abbrev main_while0b_v116 : Ref sig .tc := ⟨.hbm, 159, rfl⟩
abbrev main_while0b_c_36 : Ref sig .tc := ⟨.hbm, 160, rfl⟩
abbrev main_while0b_c_37 : Ref sig .tc := ⟨.hbm, 161, rfl⟩
abbrev main_while0b_v117 : Ref sig .tc := ⟨.hbm, 162, rfl⟩
abbrev main_while0b_c_38 : Ref sig .tc := ⟨.hbm, 163, rfl⟩
abbrev main_while0b_c_39 : Ref sig .tc := ⟨.hbm, 164, rfl⟩
abbrev main_while0b_v118 : Ref sig .tc := ⟨.hbm, 165, rfl⟩
abbrev main_while0b_c_40 : Ref sig .tc := ⟨.hbm, 166, rfl⟩
abbrev main_while0b_v119 : Ref sig .tc := ⟨.hbm, 167, rfl⟩
abbrev main_while0b_v120 : Ref sig .tc := ⟨.hbm, 168, rfl⟩
abbrev main_while0b_v121 : Ref sig .tc := ⟨.hbm, 169, rfl⟩
abbrev main_while0b_v122 : Ref sig .tc := ⟨.hbm, 170, rfl⟩
abbrev main_while0b_call1_v0 : Ref sig .tc := ⟨.hbm, 171, rfl⟩
abbrev main_while0b_call1_c : Ref sig .tc := ⟨.hbm, 172, rfl⟩
abbrev main_while0b_call1_v1 : Ref sig .tc := ⟨.hbm, 173, rfl⟩
abbrev main_while0b_call1_v2 : Ref sig .tc := ⟨.hbm, 174, rfl⟩
abbrev main_while0b_call1_c_0 : Ref sig .tc := ⟨.hbm, 175, rfl⟩
abbrev main_while0b_call1_v3 : Ref sig .tc := ⟨.hbm, 176, rfl⟩
abbrev main_while0b_call1_v4 : Ref sig .tc := ⟨.hbm, 177, rfl⟩
abbrev main_while0b_call1_c_1 : Ref sig .tc := ⟨.hbm, 178, rfl⟩
abbrev main_while0b_call1_c_2 : Ref sig .tc := ⟨.hbm, 179, rfl⟩
abbrev main_while0b_v123 : Ref sig .tc := ⟨.hbm, 180, rfl⟩
abbrev main_while0b_c_41 : Ref sig .tc := ⟨.hbm, 181, rfl⟩
abbrev main_while0b_v124 : Ref sig .tc := ⟨.hbm, 182, rfl⟩
abbrev main_v79 : Ref sig .tc := ⟨.hbm, 183, rfl⟩
abbrev main_v80 : Ref sig .tc := ⟨.hbm, 184, rfl⟩
abbrev main_cst_7 : Ref sig .tc := ⟨.hbm, 185, rfl⟩
abbrev main_v81 : Ref sig .tc := ⟨.hbm, 186, rfl⟩
abbrev main_v82 : Ref sig .tc := ⟨.hbm, 187, rfl⟩
abbrev main_v83 : Ref sig .tc := ⟨.hbm, 188, rfl⟩
abbrev main_cst_8 : Ref sig .tc := ⟨.hbm, 189, rfl⟩
abbrev main_v84 : Ref sig .tc := ⟨.hbm, 190, rfl⟩
abbrev main_v85 : Ref sig .tc := ⟨.hbm, 191, rfl⟩
abbrev main_v86 : Ref sig .tc := ⟨.hbm, 192, rfl⟩
abbrev main_cst_9 : Ref sig .tc := ⟨.hbm, 193, rfl⟩
abbrev main_v87 : Ref sig .tc := ⟨.hbm, 194, rfl⟩
abbrev main_v88 : Ref sig .tc := ⟨.hbm, 195, rfl⟩
abbrev main_cst_10 : Ref sig .tc := ⟨.hbm, 196, rfl⟩
abbrev main_v89 : Ref sig .tc := ⟨.hbm, 197, rfl⟩
abbrev main_v90 : Ref sig .tc := ⟨.hbm, 198, rfl⟩
abbrev main_v91 : Ref sig .tc := ⟨.hbm, 199, rfl⟩
abbrev main_v92 : Ref sig .tc := ⟨.hbm, 200, rfl⟩
abbrev main_v93 : Ref sig .tc := ⟨.hbm, 201, rfl⟩
abbrev main_v94 : Ref sig .tc := ⟨.hbm, 202, rfl⟩
abbrev main_v95 : Ref sig .tc := ⟨.hbm, 203, rfl⟩

abbrev nD : Nat := 1
abbrev τ : Topo := Topo.v7x

variable {F : FTy → Type} [FloatOps F]

abbrev main_while0_count : Scf.Loop 32 := ⟨0#32, 8192#32, 1#32⟩
-- ==== Cross.lean ====
abbrev S4x8192x512 : Shape := ⟨3, ![4, 8192, 512]⟩
abbrev S4x256x512 : Shape := ⟨3, ![4, 256, 512]⟩
abbrev S1x512x512 : Shape := ⟨3, ![1, 512, 512]⟩
abbrev S1x256x512 : Shape := ⟨3, ![1, 256, 512]⟩
abbrev S512x512 : Shape := ⟨2, ![512, 512]⟩
abbrev S256x512 : Shape := ⟨2, ![256, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩
abbrev S1x512x128 : Shape := ⟨3, ![1, 512, 128]⟩

abbrev nBuf : Space → Nat
  | .hbm => 4
  | .vmem => 8
  | .smem => 0
  | _ => 0

abbrev bufTy : (tb : Table) → Fin (tcTables nBuf tb) → BufTy
  | .hbm, ⟨0, _⟩ => ⟨S4x8192x512, .bf16⟩
  | .hbm, ⟨1, _⟩ => ⟨S4x256x512, .f32⟩
  | .hbm, ⟨2, _⟩ => ⟨S4x256x512, .f32⟩
  | .hbm, ⟨3, _⟩ => ⟨S4x8192x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x512x512, .bf16⟩
  | .local _ .vmem, ⟨7, _⟩ => ⟨S1x512x512, .bf16⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CrossRefIdeal.lean ====
abbrev S4x8192x512 : Shape := ⟨3, ![4, 8192, 512]⟩
abbrev S4x256x512 : Shape := ⟨3, ![4, 256, 512]⟩
abbrev S4x8192x4x128 : Shape := ⟨4, ![4, 8192, 4, 128]⟩
abbrev S4x256x4x128 : Shape := ⟨4, ![4, 256, 4, 128]⟩
abbrev S4x4x256x8192 : Shape := ⟨4, ![4, 4, 256, 8192]⟩
abbrev S4x8192x4x256 : Shape := ⟨4, ![4, 8192, 4, 256]⟩
abbrev S_ : Shape := ⟨0, ![]⟩
abbrev S4x8192x4 : Shape := ⟨3, ![4, 8192, 4]⟩
abbrev S4x8192x4x1 : Shape := ⟨4, ![4, 8192, 4, 1]⟩
abbrev S4x4x128x8192 : Shape := ⟨4, ![4, 4, 128, 8192]⟩

abbrev nBuf : Space → Nat
  | .hbm => 30
  | .vmem => 0
  | .smem => 0
  | _ => 0

abbrev bufTy : (tb : Table) → Fin (tcTables nBuf tb) → BufTy
  | .hbm, ⟨0, _⟩ => ⟨S4x8192x512, .bf16⟩
  | .hbm, ⟨1, _⟩ => ⟨S4x256x512, .f32⟩
  | .hbm, ⟨2, _⟩ => ⟨S4x256x512, .f32⟩
  | .hbm, ⟨3, _⟩ => ⟨S4x8192x512, .f32⟩
  | .hbm, ⟨4, _⟩ => ⟨S4x8192x4x128, .f32⟩
  | .hbm, ⟨5, _⟩ => ⟨S4x256x4x128, .f32⟩
  | .hbm, ⟨6, _⟩ => ⟨S4x4x256x8192, .f32⟩
  | .hbm, ⟨7, _⟩ => ⟨S4x8192x4x256, .f32⟩
  | .hbm, ⟨8, _⟩ => ⟨S_, .f32⟩
  | .hbm, ⟨9, _⟩ => ⟨S4x8192x4x256, .f32⟩
  | .hbm, ⟨10, _⟩ => ⟨S4x8192x4x256, .f32⟩
  | .hbm, ⟨11, _⟩ => ⟨S_, .f32⟩
  | .hbm, ⟨12, _⟩ => ⟨S4x8192x4, .f32⟩
  | .hbm, ⟨13, _⟩ => ⟨S_, .f32⟩
  | .hbm, ⟨14, _⟩ => ⟨S4x8192x4, .f32⟩
  | .hbm, ⟨15, _⟩ => ⟨S4x8192x4, .f32⟩
  | .hbm, ⟨16, _⟩ => ⟨S4x8192x4x1, .f32⟩
  | .hbm, ⟨17, _⟩ => ⟨S4x8192x4x256, .f32⟩
  | .hbm, ⟨18, _⟩ => ⟨S4x8192x4x256, .f32⟩
  | .hbm, ⟨19, _⟩ => ⟨S4x8192x4x256, .f32⟩
  | .hbm, ⟨20, _⟩ => ⟨S_, .f32⟩
  | .hbm, ⟨21, _⟩ => ⟨S4x8192x4, .f32⟩
  | .hbm, ⟨22, _⟩ => ⟨S4x8192x4x1, .f32⟩
  | .hbm, ⟨23, _⟩ => ⟨S4x8192x4x256, .f32⟩
  | .hbm, ⟨24, _⟩ => ⟨S4x8192x4x256, .f32⟩
  | .hbm, ⟨25, _⟩ => ⟨S4x256x4x128, .f32⟩
  | .hbm, ⟨26, _⟩ => ⟨S4x4x128x8192, .f32⟩
  | .hbm, ⟨27, _⟩ => ⟨S4x8192x4x128, .f32⟩
  | .hbm, ⟨28, _⟩ => ⟨S4x8192x512, .f32⟩
  | .hbm, ⟨29, _⟩ => ⟨S4x8192x512, .bf16⟩
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Ffn.lean ====
abbrev S4x8192x1024 : Shape := ⟨3, ![4, 8192, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S1024x2816 : Shape := ⟨2, ![1024, 2816]⟩
abbrev S1024x11x256 : Shape := ⟨3, ![1024, 11, 256]⟩
abbrev S11x1024x256 : Shape := ⟨3, ![11, 1024, 256]⟩
abbrev S11x256x1024 : Shape := ⟨3, ![11, 256, 1024]⟩
abbrev S512x1024 : Shape := ⟨2, ![512, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 20
  | .vmem => 8
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S32768x1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S1024x2816, .f32⟩
  | .hbm, ⟨9, _⟩ => ⟨S1024x11x256, .f32⟩
  | .hbm, ⟨10, _⟩ => ⟨S11x1024x256, .f32⟩
  | .hbm, ⟨11, _⟩ => ⟨S11x1024x256, .bf16⟩
  | .hbm, ⟨12, _⟩ => ⟨S1024x2816, .f32⟩
  | .hbm, ⟨13, _⟩ => ⟨S1024x11x256, .f32⟩
  | .hbm, ⟨14, _⟩ => ⟨S11x1024x256, .f32⟩
  | .hbm, ⟨15, _⟩ => ⟨S11x1024x256, .bf16⟩
  | .hbm, ⟨16, _⟩ => ⟨S11x256x1024, .f32⟩
  | .hbm, ⟨17, _⟩ => ⟨S11x256x1024, .bf16⟩
  | .hbm, ⟨18, _⟩ => ⟨S1x1024, .f32⟩
  | .hbm, ⟨19, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S11x1024x256, .bf16⟩
  | .local _ .vmem, ⟨4, _⟩ => ⟨S11x1024x256, .bf16⟩
  | .local _ .vmem, ⟨5, _⟩ => ⟨S11x256x1024, .bf16⟩
  | .local _ .vmem, ⟨6, _⟩ => ⟨S512x1024, .f32⟩
  | .local _ .vmem, ⟨7, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S11x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S11x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S11x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S4x8192x1024 : Shape := ⟨3, ![4, 8192, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x5632 : Shape := ⟨2, ![1024, 5632]⟩
abbrev S32768x5632 : Shape := ⟨2, ![32768, 5632]⟩
abbrev S32768x2816 : Shape := ⟨2, ![32768, 2816]⟩
abbrev S2816x1024 : Shape := ⟨2, ![2816, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S32768x1024, .f32⟩
  | .hbm, ⟨5, _⟩ => ⟨S1024, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S1024x5632, .f32⟩
  | .hbm, ⟨23, _⟩ => ⟨S32768x5632, .f32⟩
  | .hbm, ⟨24, _⟩ => ⟨S32768x2816, .f32⟩
  | .hbm, ⟨25, _⟩ => ⟨S32768x2816, .f32⟩
  | .hbm, ⟨26, _⟩ => ⟨S32768x2816, .f32⟩
  | .hbm, ⟨27, _⟩ => ⟨S32768x2816, .f32⟩
  | .hbm, ⟨28, _⟩ => ⟨S_, .f32⟩
  | .hbm, ⟨29, _⟩ => ⟨S32768x2816, .f32⟩
  | .hbm, ⟨30, _⟩ => ⟨S32768x2816, .f32⟩
  | .hbm, ⟨31, _⟩ => ⟨S_, .f32⟩
  | .hbm, ⟨32, _⟩ => ⟨S32768x2816, .f32⟩
  | .hbm, ⟨33, _⟩ => ⟨S32768x2816, .f32⟩
  | .hbm, ⟨34, _⟩ => ⟨S32768x2816, .f32⟩
  | .hbm, ⟨35, _⟩ => ⟨S32768x2816, .f32⟩
  | .hbm, ⟨36, _⟩ => ⟨S2816x1024, .f32⟩
  | .hbm, ⟨37, _⟩ => ⟨S32768x1024, .f32⟩
  | .hbm, ⟨38, _⟩ => ⟨S_, .f32⟩
  | .hbm, ⟨39, _⟩ => ⟨S32768x1024, .f32⟩
  | .hbm, ⟨40, _⟩ => ⟨S32768x1024, .f32⟩
  | .hbm, ⟨41, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== Merge.lean ====
abbrev S32768x1024 : Shape := ⟨2, ![32768, 1024]⟩
abbrev S32768x512 : Shape := ⟨2, ![32768, 512]⟩
abbrev S1x1024 : Shape := ⟨2, ![1, 1024]⟩
abbrev S1x1024x6728 : Shape := ⟨3, ![1, 1024, 6728]⟩
abbrev S1x512x1024 : Shape := ⟨3, ![1, 512, 1024]⟩
abbrev S1x1024x1024 : Shape := ⟨3, ![1, 1024, 1024]⟩
abbrev S1024 : Shape := ⟨1, ![1024]⟩
abbrev S1024x6728 : Shape := ⟨2, ![1024, 6728]⟩
abbrev S1024x3072 : Shape := ⟨2, ![1024, 3072]⟩
abbrev S512x1024 : Shape := ⟨2, ![512, 1024]⟩
abbrev S1024x1024 : Shape := ⟨2, ![1024, 1024]⟩
abbrev S512x512 : Shape := ⟨2, ![512, 512]⟩
abbrev S512 : Shape := ⟨1, ![512]⟩
abbrev S512x1 : Shape := ⟨2, ![512, 1]⟩

abbrev nBuf : Space → Nat
  | .hbm => 24
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S1x1024, .f32⟩
  | .hbm, ⟨5, _⟩ => ⟨S1x1024x6728, .f32⟩
  | .hbm, ⟨6, _⟩ => ⟨S1x512x1024, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S1024, .f32⟩
  | .hbm, ⟨11, _⟩ => ⟨S1x1024, .f32⟩
  | .hbm, ⟨12, _⟩ => ⟨S1024x6728, .f32⟩
  | .hbm, ⟨13, _⟩ => ⟨S1024x3072, .f32⟩
  | .hbm, ⟨14, _⟩ => ⟨S1024x3072, .bf16⟩
  | .hbm, ⟨15, _⟩ => ⟨S512x1024, .f32⟩
  | .hbm, ⟨16, _⟩ => ⟨S512x1024, .bf16⟩
  | .hbm, ⟨17, _⟩ => ⟨S512x1024, .f32⟩
  | .hbm, ⟨18, _⟩ => ⟨S512x1024, .bf16⟩
  | .hbm, ⟨19, _⟩ => ⟨S512x1024, .f32⟩
  | .hbm, ⟨20, _⟩ => ⟨S512x1024, .bf16⟩
  | .hbm, ⟨21, _⟩ => ⟨S1024x1024, .f32⟩
  | .hbm, ⟨22, _⟩ => ⟨S1024x1024, .bf16⟩
  | .hbm, ⟨23, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1x1024, .f32⟩
  | .local _ .vmem, ⟨9, _⟩ => ⟨S1024x3072, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeRefIdeal.lean ====
abbrev S32768x1024 : Shape := ⟨2, ![32768, 1024]⟩
abbrev S32768x512 : Shape := ⟨2, ![32768, 512]⟩
abbrev S1x1024 : Shape := ⟨2, ![1, 1024]⟩
abbrev S1x1024x6728 : Shape := ⟨3, ![1, 1024, 6728]⟩
abbrev S1x512x1024 : Shape := ⟨3, ![1, 512, 1024]⟩
abbrev S1x1024x1024 : Shape := ⟨3, ![1, 1024, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x6728 : Shape := ⟨2, ![1024, 6728]⟩
abbrev S1024x3072 : Shape := ⟨2, ![1024, 3072]⟩
abbrev S32768x3072 : Shape := ⟨2, ![32768, 3072]⟩
abbrev S32768x3x1024 : Shape := ⟨3, ![32768, 3, 1024]⟩
abbrev S32768x1x1024 : Shape := ⟨3, ![32768, 1, 1024]⟩
abbrev S512x1024 : Shape := ⟨2, ![512, 1024]⟩
abbrev S1024x1024 : Shape := ⟨2, ![1024, 1024]⟩

abbrev nBuf : Space → Nat
  | .hbm => 62
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S1x1024, .f32⟩
  | .hbm, ⟨5, _⟩ => ⟨S1x1024x6728, .f32⟩
  | .hbm, ⟨6, _⟩ => ⟨S1x512x1024, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S1024, .f32⟩
  | .hbm, ⟨11, _⟩ => ⟨S32768x1024, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x1, .f32⟩
  | .hbm, ⟨22, _⟩ => ⟨S32768x1024, .f32⟩
  | .hbm, ⟨23, _⟩ => ⟨S32768x1024, .f32⟩
  | .hbm, ⟨24, _⟩ => ⟨S1x1024, .f32⟩
  | .hbm, ⟨25, _⟩ => ⟨S32768x1024, .f32⟩
  | .hbm, ⟨26, _⟩ => ⟨S32768x1024, .f32⟩
  | .hbm, ⟨27, _⟩ => ⟨S1024x6728, .f32⟩
  | .hbm, ⟨28, _⟩ => ⟨S1024x3072, .f32⟩
  | .hbm, ⟨29, _⟩ => ⟨S32768x3072, .f32⟩
  | .hbm, ⟨30, _⟩ => ⟨S32768x3072, .f32⟩
  | .hbm, ⟨31, _⟩ => ⟨S32768x3072, .f32⟩
  | .hbm, ⟨32, _⟩ => ⟨S_, .f32⟩
  | .hbm, ⟨33, _⟩ => ⟨S32768x3072, .f32⟩
  | .hbm, ⟨34, _⟩ => ⟨S32768x3072, .f32⟩
  | .hbm, ⟨35, _⟩ => ⟨S_, .f32⟩
  | .hbm, ⟨36, _⟩ => ⟨S32768x3072, .f32⟩
  | .hbm, ⟨37, _⟩ => ⟨S32768x3072, .f32⟩
  | .hbm, ⟨38, _⟩ => ⟨S32768x3x1024, .f32⟩
  | .hbm, ⟨39, _⟩ => ⟨S32768x1x1024, .f32⟩
  | .hbm, ⟨40, _⟩ => ⟨S32768x1024, .f32⟩
  | .hbm, ⟨41, _⟩ => ⟨S32768x512, .f32⟩
  | .hbm, ⟨42, _⟩ => ⟨S512x1024, .f32⟩
  | .hbm, ⟨43, _⟩ => ⟨S32768x1024, .f32⟩
  | .hbm, ⟨44, _⟩ => ⟨S32768x1024, .f32⟩
  | .hbm, ⟨45, _⟩ => ⟨S32768x1x1024, .f32⟩
  | .hbm, ⟨46, _⟩ => ⟨S32768x1024, .f32⟩
  | .hbm, ⟨47, _⟩ => ⟨S32768x512, .f32⟩
  | .hbm, ⟨48, _⟩ => ⟨S512x1024, .f32⟩
  | .hbm, ⟨49, _⟩ => ⟨S32768x1024, .f32⟩
  | .hbm, ⟨50, _⟩ => ⟨S32768x1024, .f32⟩
  | .hbm, ⟨51, _⟩ => ⟨S32768x1024, .f32⟩
  | .hbm, ⟨52, _⟩ => ⟨S32768x1x1024, .f32⟩
  | .hbm, ⟨53, _⟩ => ⟨S32768x1024, .f32⟩
  | .hbm, ⟨54, _⟩ => ⟨S32768x512, .f32⟩
  | .hbm, ⟨55, _⟩ => ⟨S512x1024, .f32⟩
  | .hbm, ⟨56, _⟩ => ⟨S32768x1024, .f32⟩
  | .hbm, ⟨57, _⟩ => ⟨S32768x1024, .f32⟩
  | .hbm, ⟨58, _⟩ => ⟨S32768x1024, .f32⟩
  | .hbm, ⟨59, _⟩ => ⟨S1024x1024, .f32⟩
  | .hbm, ⟨60, _⟩ => ⟨S32768x1024, .f32⟩
  | .hbm, ⟨61, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== MemKv.lean ====
abbrev S4x256x1024 : Shape := ⟨3, ![4, 256, 1024]⟩
abbrev S1x1024 : Shape := ⟨2, ![1, 1024]⟩
abbrev S1x1024x1024 : Shape := ⟨3, ![1, 1024, 1024]⟩
abbrev S1x128 : Shape := ⟨2, ![1, 128]⟩
abbrev S1024x1024 : Shape := ⟨2, ![1024, 1024]⟩
abbrev S1024 : Shape := ⟨1, ![1024]⟩
abbrev S128 : Shape := ⟨1, ![128]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S4x128 : Shape := ⟨2, ![4, 128]⟩
abbrev S1024x512 : Shape := ⟨2, ![1024, 512]⟩
abbrev S512x1024 : Shape := ⟨2, ![512, 1024]⟩

abbrev nBuf : Space → Nat
  | .hbm => 41
  | .vmem => 10
  | .smem => 0
  | _ => 0

abbrev bufTy : (tb : Table) → Fin (tcTables nBuf tb) → BufTy
  | .hbm, ⟨0, _⟩ => ⟨S4x256x1024, .f32⟩
  | .hbm, ⟨1, _⟩ => ⟨S1x1024, .f32⟩
  | .hbm, ⟨2, _⟩ => ⟨S1x1024x1024, .f32⟩
  | .hbm, ⟨3, _⟩ => ⟨S1x128, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S128, .f32⟩
  | .hbm, ⟨8, _⟩ => ⟨S512, .i32⟩
  | .hbm, ⟨9, _⟩ => ⟨S_, .i32⟩
  | .hbm, ⟨10, _⟩ => ⟨S_, .i32⟩
  | .hbm, ⟨11, _⟩ => ⟨S512, .i32⟩
  | .hbm, ⟨12, _⟩ => ⟨S512, .i32⟩
  | .hbm, ⟨13, _⟩ => ⟨S512, .i32⟩
  | .hbm, ⟨14, _⟩ => ⟨S_, .i32⟩
  | .hbm, ⟨15, _⟩ => ⟨S512, .i32⟩
  | .hbm, ⟨16, _⟩ => ⟨S512, .i1⟩
  | .hbm, ⟨17, _⟩ => ⟨S512, .i32⟩
  | .hbm, ⟨18, _⟩ => ⟨S512, .i32⟩
  | .hbm, ⟨19, _⟩ => ⟨S_, .i32⟩
  | .hbm, ⟨20, _⟩ => ⟨S512, .i32⟩
  | .hbm, ⟨21, _⟩ => ⟨S512, .i1⟩
  | .hbm, ⟨22, _⟩ => ⟨S512, .i1⟩
  | .hbm, ⟨23, _⟩ => ⟨S_, .i32⟩
  | .hbm, ⟨24, _⟩ => ⟨S512, .i32⟩
  | .hbm, ⟨25, _⟩ => ⟨S512, .i32⟩
  | .hbm, ⟨26, _⟩ => ⟨S512, .i32⟩
  | .hbm, ⟨27, _⟩ => ⟨S512x1, .i32⟩
  | .hbm, ⟨28, _⟩ => ⟨S1x512, .i32⟩
  | .hbm, ⟨29, _⟩ => ⟨S512x512, .i32⟩
  | .hbm, ⟨30, _⟩ => ⟨S512x512, .i32⟩
  | .hbm, ⟨31, _⟩ => ⟨S512x512, .i1⟩
  | .hbm, ⟨32, _⟩ => ⟨S512x512, .bf16⟩
  | .hbm, ⟨33, _⟩ => ⟨S1x1024, .f32⟩
  | .hbm, ⟨34, _⟩ => ⟨S1024x1024, .bf16⟩
  | .hbm, ⟨35, _⟩ => ⟨S1x128, .f32⟩
  | .hbm, ⟨36, _⟩ => ⟨S4x128, .f32⟩
  | .hbm, ⟨37, _⟩ => ⟨S512, .f32⟩
  | .hbm, ⟨38, _⟩ => ⟨S1x512, .f32⟩
  | .hbm, ⟨39, _⟩ => ⟨S1024x512, .f32⟩
  | .hbm, ⟨40, _⟩ => ⟨S1024x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1x512, .f32⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18_0 : Ref sig .tc := ⟨.hbm, 39, rfl⟩
abbrev main_v18_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MemKvRefIdeal.lean ====
abbrev S4x256x1024 : Shape := ⟨3, ![4, 256, 1024]⟩
abbrev S1x1024 : Shape := ⟨2, ![1, 1024]⟩
abbrev S1x1024x1024 : Shape := ⟨3, ![1, 1024, 1024]⟩
abbrev S1x128 : Shape := ⟨2, ![1, 128]⟩
abbrev S1024 : Shape := ⟨1, ![1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S1024x1024 : Shape := ⟨2, ![1024, 1024]⟩
abbrev S4x256x512 : Shape := ⟨3, ![4, 256, 512]⟩
abbrev S4x256x4x128 : Shape := ⟨4, ![4, 256, 4, 128]⟩
abbrev S128 : Shape := ⟨1, ![128]⟩
abbrev S4x256x4 : Shape := ⟨3, ![4, 256, 4]⟩
abbrev S4x256x4x1 : Shape := ⟨4, ![4, 256, 4, 1]⟩
abbrev S1x1x1x128 : Shape := ⟨4, ![1, 1, 1, 128]⟩
abbrev S1024x512 : Shape := ⟨2, ![1024, 512]⟩

abbrev nBuf : Space → Nat
  | .hbm => 45
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1x1024, .f32⟩
  | .hbm, ⟨2, _⟩ => ⟨S1x1024x1024, .f32⟩
  | .hbm, ⟨3, _⟩ => ⟨S1x128, .f32⟩
  | .hbm, ⟨4, _⟩ => ⟨S1024, .f32⟩
  | .hbm, ⟨5, _⟩ => ⟨S4x256x1024, .f32⟩
  | .hbm, ⟨6, _⟩ => ⟨S_, .f32⟩
  | .hbm, ⟨7, _⟩ => ⟨S4x256, .f32⟩
  | .hbm, ⟨8, _⟩ => ⟨S4x256x1, .f32⟩
  | .hbm, ⟨9, _⟩ => ⟨S_, .f32⟩
  | .hbm, ⟨10, _⟩ => ⟨S4x256x1, .f32⟩
  | .hbm, ⟨11, _⟩ => ⟨S4x256x1, .f32⟩
  | .hbm, ⟨12, _⟩ => ⟨S_, .f32⟩
  | .hbm, ⟨13, _⟩ => ⟨S4x256x1, .f32⟩
  | .hbm, ⟨14, _⟩ => ⟨S4x256x1, .f32⟩
  | .hbm, ⟨15, _⟩ => ⟨S4x256x1, .f32⟩
  | .hbm, ⟨16, _⟩ => ⟨S4x256x1024, .f32⟩
  | .hbm, ⟨17, _⟩ => ⟨S4x256x1024, .f32⟩
  | .hbm, ⟨18, _⟩ => ⟨S1x1x1024, .f32⟩
  | .hbm, ⟨19, _⟩ => ⟨S4x256x1024, .f32⟩
  | .hbm, ⟨20, _⟩ => ⟨S4x256x1024, .f32⟩
  | .hbm, ⟨21, _⟩ => ⟨S1024x1024, .f32⟩
  | .hbm, ⟨22, _⟩ => ⟨S4x256x1024, .f32⟩
  | .hbm, ⟨23, _⟩ => ⟨S4x256x512, .f32⟩
  | .hbm, ⟨24, _⟩ => ⟨S4x256x512, .f32⟩
  | .hbm, ⟨25, _⟩ => ⟨S4x256x4x128, .f32⟩
  | .hbm, ⟨26, _⟩ => ⟨S128, .f32⟩
  | .hbm, ⟨27, _⟩ => ⟨S4x256x4x128, .f32⟩
  | .hbm, ⟨28, _⟩ => ⟨S_, .f32⟩
  | .hbm, ⟨29, _⟩ => ⟨S4x256x4, .f32⟩
  | .hbm, ⟨30, _⟩ => ⟨S4x256x4x1, .f32⟩
  | .hbm, ⟨31, _⟩ => ⟨S_, .f32⟩
  | .hbm, ⟨32, _⟩ => ⟨S4x256x4x1, .f32⟩
  | .hbm, ⟨33, _⟩ => ⟨S4x256x4x1, .f32⟩
  | .hbm, ⟨34, _⟩ => ⟨S_, .f32⟩
  | .hbm, ⟨35, _⟩ => ⟨S4x256x4x1, .f32⟩
  | .hbm, ⟨36, _⟩ => ⟨S4x256x4x1, .f32⟩
  | .hbm, ⟨37, _⟩ => ⟨S4x256x4x1, .f32⟩
  | .hbm, ⟨38, _⟩ => ⟨S4x256x4x128, .f32⟩
  | .hbm, ⟨39, _⟩ => ⟨S4x256x4x128, .f32⟩
  | .hbm, ⟨40, _⟩ => ⟨S1x1x1x128, .f32⟩
  | .hbm, ⟨41, _⟩ => ⟨S4x256x4x128, .f32⟩
  | .hbm, ⟨42, _⟩ => ⟨S4x256x4x128, .f32⟩
  | .hbm, ⟨43, _⟩ => ⟨S1024x512, .f32⟩
  | .hbm, ⟨44, _⟩ => ⟨S1024x512, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Proj.lean ====
abbrev S4x8192x1024 : Shape := ⟨3, ![4, 8192, 1024]⟩
abbrev S1x1024 : Shape := ⟨2, ![1, 1024]⟩
abbrev S1x1024x6728 : Shape := ⟨3, ![1, 1024, 6728]⟩
abbrev S1x64 : Shape := ⟨2, ![1, 64]⟩
abbrev S1x128 : Shape := ⟨2, ![1, 128]⟩
abbrev S1024 : Shape := ⟨1, ![1024]⟩
abbrev S1024x6728 : Shape := ⟨2, ![1024, 6728]⟩
abbrev S64 : Shape := ⟨1, ![64]⟩
abbrev S128 : Shape := ⟨1, ![128]⟩
abbrev S1024x512 : Shape := ⟨2, ![1024, 512]⟩
abbrev S1024x64 : Shape := ⟨2, ![1024, 64]⟩
abbrev S1024x8 : Shape := ⟨2, ![1024, 8]⟩
abbrev S1024x3072 : Shape := ⟨2, ![1024, 3072]⟩
abbrev S_ : Shape := ⟨0, ![]⟩
abbrev S1024x56 : Shape := ⟨2, ![1024, 56]⟩
abbrev S1024x1536 : Shape := ⟨2, ![1024, 1536]⟩
abbrev S1024x128 : Shape := ⟨2, ![1024, 128]⟩
abbrev S1024x1024 : Shape := ⟨2, ![1024, 1024]⟩
abbrev S8 : Shape := ⟨1, ![8]⟩
abbrev S56 : Shape := ⟨1, ![56]⟩
abbrev S8x64 : Shape := ⟨2, ![8, 64]⟩
abbrev S512 : Shape := ⟨1, ![512]⟩
abbrev S1x512 : Shape := ⟨2, ![1, 512]⟩
abbrev S4x128 : Shape := ⟨2, ![4, 128]⟩
abbrev S512x1 : Shape := ⟨2, ![512, 1]⟩
abbrev S512x512 : Shape := ⟨2, ![512, 512]⟩
abbrev S512x1024 : Shape := ⟨2, ![512, 1024]⟩
abbrev S128x1024 : Shape := ⟨2, ![128, 1024]⟩
abbrev S128x1 : Shape := ⟨2, ![128, 1]⟩
abbrev S128x512 : Shape := ⟨2, ![128, 512]⟩
abbrev S4x512x8192 : Shape := ⟨3, ![4, 512, 8192]⟩
abbrev S4x64x8192 : Shape := ⟨3, ![4, 64, 8192]⟩
abbrev S4x8x8192 : Shape := ⟨3, ![4, 8, 8192]⟩
abbrev S4x8192x512 : Shape := ⟨3, ![4, 8192, 512]⟩
abbrev S4x8192x128 : Shape := ⟨3, ![4, 8192, 128]⟩
abbrev S4x32x512x256 : Shape := ⟨4, ![4, 32, 512, 256]⟩
abbrev S1x512x1024 : Shape := ⟨3, ![1, 512, 1024]⟩
abbrev S1x512x512 : Shape := ⟨3, ![1, 512, 512]⟩
abbrev S1x64x512 : Shape := ⟨3, ![1, 64, 512]⟩
abbrev S1x8x512 : Shape := ⟨3, ![1, 8, 512]⟩
abbrev S1x512x128 : Shape := ⟨3, ![1, 512, 128]⟩
abbrev S1x2x512x256 : Shape := ⟨4, ![1, 2, 512, 256]⟩
abbrev S512x256 : Shape := ⟨2, ![512, 256]⟩
abbrev S1x1x512x256 : Shape := ⟨4, ![1, 1, 512, 256]⟩
abbrev S64x512 : Shape := ⟨2, ![64, 512]⟩
abbrev S8x512 : Shape := ⟨2, ![8, 512]⟩
abbrev S512x128 : Shape := ⟨2, ![512, 128]⟩

abbrev nBuf : Space → Nat
  | .hbm => 134
  | .vmem => 39
  | .smem => 0
  | _ => 0

abbrev hbmTy0_0 (i : Nat) : BufTy := match i % 128 with
  | 0 => ⟨S4x8192x1024, .f32⟩
  | 1 => ⟨S1x1024, .f32⟩
  | 2 => ⟨S1x1024x6728, .f32⟩
  | 3 => ⟨S1x64, .f32⟩
  | 4 => ⟨S1x64, .f32⟩
  | 5 => ⟨S1x128, .f32⟩
  | 6 => ⟨S1024, .f32⟩
  | 7 => ⟨S1024x6728, .f32⟩
  | 8 => ⟨S64, .f32⟩
  | 9 => ⟨S64, .f32⟩
  | 10 => ⟨S128, .f32⟩
  | 11 => ⟨S1024x512, .f32⟩
  | 12 => ⟨S1024x512, .f32⟩
  | 13 => ⟨S1024x512, .f32⟩
  | 14 => ⟨S1024x512, .f32⟩
  | 15 => ⟨S1024x64, .f32⟩
  | 16 => ⟨S1024x8, .f32⟩
  | 17 => ⟨S1024x512, .f32⟩
  | 18 => ⟨S1024x512, .f32⟩
  | 19 => ⟨S1024x512, .f32⟩
  | 20 => ⟨S1024x3072, .f32⟩
  | 21 => ⟨S_, .f32⟩
  | 22 => ⟨S1024x56, .f32⟩
  | 23 => ⟨S1024x1536, .f32⟩
  | 24 => ⟨S1024x1536, .bf16⟩
  | 25 => ⟨S1024x128, .f32⟩
  | 26 => ⟨S1024x128, .bf16⟩
  | 27 => ⟨S1024x1024, .f32⟩
  | 28 => ⟨S1024x1024, .bf16⟩
  | 29 => ⟨S_, .f32⟩
  | 30 => ⟨S64, .f32⟩
  | 31 => ⟨S_, .f32⟩
  | 32 => ⟨S8, .f32⟩
  | 33 => ⟨S_, .f32⟩
  | 34 => ⟨S56, .f32⟩
  | 35 => ⟨S128, .f32⟩
  | 36 => ⟨S1x128, .f32⟩
  | 37 => ⟨S1x1024, .f32⟩
  | 38 => ⟨S1024x512, .bf16⟩
  | 39 => ⟨S1024x512, .bf16⟩
  | 40 => ⟨S1x64, .f32⟩
  | 41 => ⟨S8x64, .f32⟩
  | 42 => ⟨S512, .f32⟩
  | 43 => ⟨S1x512, .f32⟩
  | 44 => ⟨S1x64, .f32⟩
  | 45 => ⟨S8x64, .f32⟩
  | 46 => ⟨S512, .f32⟩
  | 47 => ⟨S1x512, .f32⟩
  | 48 => ⟨S1x128, .f32⟩
  | 49 => ⟨S4x128, .f32⟩
  | 50 => ⟨S512, .f32⟩
  | 51 => ⟨S1x512, .f32⟩
  | 52 => ⟨S512, .i32⟩
  | 53 => ⟨S_, .i32⟩
  | 54 => ⟨S_, .i32⟩
  | 55 => ⟨S512, .i32⟩
  | 56 => ⟨S512, .i32⟩
  | 57 => ⟨S512, .i32⟩
  | 58 => ⟨S_, .i32⟩
  | 59 => ⟨S512, .i32⟩
  | 60 => ⟨S512, .i1⟩
  | 61 => ⟨S512, .i32⟩
  | 62 => ⟨S512, .i32⟩
  | 63 => ⟨S_, .i32⟩
  | 64 => ⟨S512, .i32⟩
  | 65 => ⟨S512, .i1⟩
  | 66 => ⟨S512, .i1⟩
  | 67 => ⟨S_, .i32⟩
  | 68 => ⟨S512, .i32⟩
  | 69 => ⟨S512, .i32⟩
  | 70 => ⟨S512, .i32⟩
  | 71 => ⟨S512x1, .i32⟩
  | 72 => ⟨S1x512, .i32⟩
  | 73 => ⟨S512x512, .i32⟩
  | 74 => ⟨S512x512, .i32⟩
  | 75 => ⟨S512x512, .i1⟩
  | 76 => ⟨S512x512, .bf16⟩
  | 77 => ⟨S512, .i32⟩
  | 78 => ⟨S_, .i32⟩
  | 79 => ⟨S_, .i32⟩
  | 80 => ⟨S512, .i32⟩
  | 81 => ⟨S512, .i32⟩
  | 82 => ⟨S512, .i32⟩
  | 83 => ⟨S_, .i32⟩
  | 84 => ⟨S512, .i32⟩
  | 85 => ⟨S512, .i1⟩
  | 86 => ⟨S512, .i32⟩
  | 87 => ⟨S512, .i32⟩
  | 88 => ⟨S_, .i32⟩
  | 89 => ⟨S512, .i32⟩
  | 90 => ⟨S512, .i1⟩
  | 91 => ⟨S512, .i1⟩
  | 92 => ⟨S_, .i32⟩
  | 93 => ⟨S512, .i32⟩
  | 94 => ⟨S512, .i32⟩
  | 95 => ⟨S512, .i32⟩
  | 96 => ⟨S512x1, .i32⟩
  | 97 => ⟨S1x512, .i32⟩
  | 98 => ⟨S512x512, .i32⟩
  | 99 => ⟨S512x512, .i32⟩
  | 100 => ⟨S512x512, .i1⟩
  | 101 => ⟨S512x512, .bf16⟩
  | 102 => ⟨S1024x3072, .bf16⟩
  | 103 => ⟨S1024x1024, .bf16⟩
  | 104 => ⟨S1024x1024, .bf16⟩
  | 105 => ⟨S1024x512, .bf16⟩
  | 106 => ⟨S512x1024, .bf16⟩
  | 107 => ⟨S1024x512, .bf16⟩
  | 108 => ⟨S512x1024, .bf16⟩
  | 109 => ⟨S128x1024, .bf16⟩
  | 110 => ⟨S1x64, .f32⟩
  | 111 => ⟨S8x64, .f32⟩
  | 112 => ⟨S512, .f32⟩
  | 113 => ⟨S512x1, .f32⟩
  | 114 => ⟨S1x64, .f32⟩
  | 115 => ⟨S8x64, .f32⟩
  | 116 => ⟨S512, .f32⟩
  | 117 => ⟨S512x1, .f32⟩
  | 118 => ⟨S128x1, .f32⟩
  | 119 => ⟨S512x512, .f32⟩
  | 120 => ⟨S512x512, .f32⟩
  | 121 => ⟨S128x512, .f32⟩
  | 122 => ⟨S4x512x8192, .f32⟩
  | 123 => ⟨S4x512x8192, .f32⟩
  | 124 => ⟨S4x64x8192, .f32⟩
  | 125 => ⟨S4x8x8192, .f32⟩
  | 126 => ⟨S4x512x8192, .bf16⟩
  | 127 => ⟨S4x512x8192, .bf16⟩
  | _ => ⟨S4x8192x1024, .f32⟩

abbrev hbmTy0_1 (i : Nat) : BufTy := match i % 128 with
  | 0 => ⟨S4x8192x512, .bf16⟩
  | 1 => ⟨S4x8192x128, .bf16⟩
  | 2 => ⟨S4x32x512x256, .bf16⟩
  | 3 => ⟨S4x8192x512, .f32⟩
  | 4 => ⟨S4x8192x512, .f32⟩
  | 5 => ⟨S4x8192x512, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S128x1024, .bf16⟩
  | .local _ .vmem, ⟨7, _⟩ => ⟨S1024x1024, .bf16⟩
  | .local _ .vmem, ⟨8, _⟩ => ⟨S1024x512, .bf16⟩
  | .local _ .vmem, ⟨9, _⟩ => ⟨S512x512, .f32⟩
  | .local _ .vmem, ⟨10, _⟩ => ⟨S512x512, .f32⟩
  | .local _ .vmem, ⟨11, _⟩ => ⟨S1x512, .f32⟩
  | .local _ .vmem, ⟨12, _⟩ => ⟨S128x512, .f32⟩
  | .local _ .vmem, ⟨13, _⟩ => ⟨S512x512, .bf16⟩
  | .local _ .vmem, ⟨14, _⟩ => ⟨S512x512, .bf16⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | .local _ .vmem, ⟨18, _⟩ => ⟨S1x512x512, .f32⟩
  | .local _ .vmem, ⟨19, _⟩ => ⟨S1x64x512, .f32⟩
  | .local _ .vmem, ⟨20, _⟩ => ⟨S1x64x512, .f32⟩
  | .local _ .vmem, ⟨21, _⟩ => ⟨S1x8x512, .f32⟩
  | .local _ .vmem, ⟨22, _⟩ => ⟨S1x8x512, .f32⟩
  | .local _ .vmem, ⟨23, _⟩ => ⟨S1x512x512, .bf16⟩
  | .local _ .vmem, ⟨24, _⟩ => ⟨S1x512x512, .bf16⟩
  | .local _ .vmem, ⟨25, _⟩ => ⟨S1x512x512, .bf16⟩
  | .local _ .vmem, ⟨26, _⟩ => ⟨S1x512x512, .bf16⟩
  | .local _ .vmem, ⟨27, _⟩ => ⟨S1x512x512, .bf16⟩
  | .local _ .vmem, ⟨28, _⟩ => ⟨S1x512x512, .bf16⟩
  | .local _ .vmem, ⟨29, _⟩ => ⟨S1x512x128, .bf16⟩
  | .local _ .vmem, ⟨30, _⟩ => ⟨S1x512x128, .bf16⟩
  | .local _ .vmem, ⟨31, _⟩ => ⟨S1x2x512x256, .bf16⟩
  | .local _ .vmem, ⟨32, _⟩ => ⟨S1x2x512x256, .bf16⟩
  | .local _ .vmem, ⟨33, _⟩ => ⟨S1x512x512, .f32⟩
  | .local _ .vmem, ⟨34, _⟩ => ⟨S1x512x512, .f32⟩
  | .local _ .vmem, ⟨35, _⟩ => ⟨S1x512x512, .f32⟩
  | .local _ .vmem, ⟨36, _⟩ => ⟨S1x512x512, .f32⟩
  | .local _ .vmem, ⟨37, _⟩ => ⟨S1x512x512, .bf16⟩
  | .local _ .vmem, ⟨38, _⟩ => ⟨S1x512x512, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_c : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_v6 : Ref sig .tc := ⟨.hbm, 60, rfl⟩
abbrev main_call0_v7 : Ref sig .tc := ⟨.hbm, 61, rfl⟩
abbrev main_call0_v8 : Ref sig .tc := ⟨.hbm, 62, rfl⟩
abbrev main_call0_c : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_call0_c_0 : Ref sig .tc := ⟨.hbm, 67, rfl⟩
abbrev main_call0_v12 : Ref sig .tc := ⟨.hbm, 68, rfl⟩
abbrev main_call0_v13 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_c_3 : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_v7 : Ref sig .tc := ⟨.hbm, 86, rfl⟩
abbrev main_call1_v8 : Ref sig .tc := ⟨.hbm, 87, rfl⟩
abbrev main_call1_c : Ref sig .tc := ⟨.hbm, 88, rfl⟩
abbrev main_call1_v9 : Ref sig .tc := ⟨.hbm, 89, rfl⟩
abbrev main_call1_v10 : Ref sig .tc := ⟨.hbm, 90, rfl⟩
abbrev main_call1_v11 : Ref sig .tc := ⟨.hbm, 91, rfl⟩
abbrev main_call1_c_0 : Ref sig .tc := ⟨.hbm, 92, rfl⟩
abbrev main_call1_v12 : Ref sig .tc := ⟨.hbm, 93, rfl⟩
abbrev main_call1_v13 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78_0 : Ref sig .tc := ⟨.hbm, 122, rfl⟩
abbrev main_v78_1 : Ref sig .tc := ⟨.hbm, 123, rfl⟩
abbrev main_v78_2 : Ref sig .tc := ⟨.hbm, 124, rfl⟩
abbrev main_v78_3 : Ref sig .tc := ⟨.hbm, 125, rfl⟩
abbrev main_v78_4 : Ref sig .tc := ⟨.hbm, 126, rfl⟩
abbrev main_v78_5 : Ref sig .tc := ⟨.hbm, 127, rfl⟩
abbrev main_v78_6 : Ref sig .tc := ⟨.hbm, 128, rfl⟩
abbrev main_v78_7 : Ref sig .tc := ⟨.hbm, 129, rfl⟩
abbrev main_v78_8 : Ref sig .tc := ⟨.hbm, 130, rfl⟩
abbrev main_v78_9 : Ref sig .tc := ⟨.hbm, 131, rfl⟩
abbrev main_v78_10 : Ref sig .tc := ⟨.hbm, 132, rfl⟩
abbrev main_v78_11 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_stg22_0 : Ref sig .tc := ⟨.vmem, 31, rfl⟩
abbrev cc0_stg22_1 : Ref sig .tc := ⟨.vmem, 32, rfl⟩
abbrev cc0_stg23_0 : Ref sig .tc := ⟨.vmem, 33, rfl⟩
abbrev cc0_stg23_1 : Ref sig .tc := ⟨.vmem, 34, rfl⟩
abbrev cc0_stg24_0 : Ref sig .tc := ⟨.vmem, 35, rfl⟩
abbrev cc0_stg24_1 : Ref sig .tc := ⟨.vmem, 36, rfl⟩
abbrev cc0_stg25_0 : Ref sig .tc := ⟨.vmem, 37, rfl⟩
abbrev cc0_stg25_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30
abbrev cc0_sem22_0 : DmaSem sig := 31
abbrev cc0_sem22_1 : DmaSem sig := 32
abbrev cc0_sem23_0 : DmaSem sig := 33
abbrev cc0_sem23_1 : DmaSem sig := 34
abbrev cc0_sem24_0 : DmaSem sig := 35
abbrev cc0_sem24_1 : DmaSem sig := 36
abbrev cc0_sem25_0 : DmaSem sig := 37
abbrev cc0_sem25_1 : DmaSem sig := 38

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x64x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x8x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x2x512x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x512x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x512x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x512x512 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]
-- ==== ProjRefIdeal.lean ====
abbrev S4x8192x1024 : Shape := ⟨3, ![4, 8192, 1024]⟩
abbrev S1x1024 : Shape := ⟨2, ![1, 1024]⟩
abbrev S1x1024x6728 : Shape := ⟨3, ![1, 1024, 6728]⟩
abbrev S1x64 : Shape := ⟨2, ![1, 64]⟩
abbrev S1x128 : Shape := ⟨2, ![1, 128]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x6728 : Shape := ⟨2, ![1024, 6728]⟩
abbrev S4x8192x6728 : Shape := ⟨3, ![4, 8192, 6728]⟩
abbrev S4x8192x512 : Shape := ⟨3, ![4, 8192, 512]⟩
abbrev S4x8192x64 : Shape := ⟨3, ![4, 8192, 64]⟩
abbrev S4x8192x8 : Shape := ⟨3, ![4, 8192, 8]⟩
abbrev S4x8192x3072 : Shape := ⟨3, ![4, 8192, 3072]⟩
abbrev S4x8192x8x64 : Shape := ⟨4, ![4, 8192, 8, 64]⟩
abbrev S64 : Shape := ⟨1, ![64]⟩
abbrev S4x8192x8x1 : Shape := ⟨4, ![4, 8192, 8, 1]⟩
abbrev S1x1x1x64 : Shape := ⟨4, ![1, 1, 1, 64]⟩
abbrev S4x8192x4x128 : Shape := ⟨4, ![4, 8192, 4, 128]⟩
abbrev S128 : Shape := ⟨1, ![128]⟩
abbrev S4x8192x4 : Shape := ⟨3, ![4, 8192, 4]⟩
abbrev S4x8192x4x1 : Shape := ⟨4, ![4, 8192, 4, 1]⟩
abbrev S1x1x1x128 : Shape := ⟨4, ![1, 1, 1, 128]⟩
abbrev S4x512x8192 : Shape := ⟨3, ![4, 512, 8192]⟩
abbrev S4x64x8192 : Shape := ⟨3, ![4, 64, 8192]⟩
abbrev S4x8x8192 : Shape := ⟨3, ![4, 8, 8192]⟩

abbrev nBuf : Space → Nat
  | .hbm => 108
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x6728, .f32⟩
  | .hbm, ⟨3, _⟩ => ⟨S1x64, .f32⟩
  | .hbm, ⟨4, _⟩ => ⟨S1x64, .f32⟩
  | .hbm, ⟨5, _⟩ => ⟨S1x128, .f32⟩
  | .hbm, ⟨6, _⟩ => ⟨S1024, .f32⟩
  | .hbm, ⟨7, _⟩ => ⟨S4x8192x1024, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S4x8192x1, .f32⟩
  | .hbm, ⟨18, _⟩ => ⟨S4x8192x1024, .f32⟩
  | .hbm, ⟨19, _⟩ => ⟨S4x8192x1024, .f32⟩
  | .hbm, ⟨20, _⟩ => ⟨S1x1x1024, .f32⟩
  | .hbm, ⟨21, _⟩ => ⟨S4x8192x1024, .f32⟩
  | .hbm, ⟨22, _⟩ => ⟨S4x8192x1024, .f32⟩
  | .hbm, ⟨23, _⟩ => ⟨S1024x6728, .f32⟩
  | .hbm, ⟨24, _⟩ => ⟨S4x8192x6728, .f32⟩
  | .hbm, ⟨25, _⟩ => ⟨S4x8192x512, .f32⟩
  | .hbm, ⟨26, _⟩ => ⟨S4x8192x512, .f32⟩
  | .hbm, ⟨27, _⟩ => ⟨S4x8192x512, .f32⟩
  | .hbm, ⟨28, _⟩ => ⟨S4x8192x512, .f32⟩
  | .hbm, ⟨29, _⟩ => ⟨S4x8192x64, .f32⟩
  | .hbm, ⟨30, _⟩ => ⟨S4x8192x8, .f32⟩
  | .hbm, ⟨31, _⟩ => ⟨S4x8192x512, .f32⟩
  | .hbm, ⟨32, _⟩ => ⟨S4x8192x512, .f32⟩
  | .hbm, ⟨33, _⟩ => ⟨S4x8192x512, .f32⟩
  | .hbm, ⟨34, _⟩ => ⟨S4x8192x3072, .f32⟩
  | .hbm, ⟨35, _⟩ => ⟨S4x8192x8x64, .f32⟩
  | .hbm, ⟨36, _⟩ => ⟨S64, .f32⟩
  | .hbm, ⟨37, _⟩ => ⟨S4x8192x8x64, .f32⟩
  | .hbm, ⟨38, _⟩ => ⟨S_, .f32⟩
  | .hbm, ⟨39, _⟩ => ⟨S4x8192x8, .f32⟩
  | .hbm, ⟨40, _⟩ => ⟨S4x8192x8x1, .f32⟩
  | .hbm, ⟨41, _⟩ => ⟨S_, .f32⟩
  | .hbm, ⟨42, _⟩ => ⟨S4x8192x8x1, .f32⟩
  | .hbm, ⟨43, _⟩ => ⟨S4x8192x8x1, .f32⟩
  | .hbm, ⟨44, _⟩ => ⟨S_, .f32⟩
  | .hbm, ⟨45, _⟩ => ⟨S4x8192x8x1, .f32⟩
  | .hbm, ⟨46, _⟩ => ⟨S4x8192x8x1, .f32⟩
  | .hbm, ⟨47, _⟩ => ⟨S4x8192x8x1, .f32⟩
  | .hbm, ⟨48, _⟩ => ⟨S4x8192x8x64, .f32⟩
  | .hbm, ⟨49, _⟩ => ⟨S4x8192x8x64, .f32⟩
  | .hbm, ⟨50, _⟩ => ⟨S1x1x1x64, .f32⟩
  | .hbm, ⟨51, _⟩ => ⟨S4x8192x8x64, .f32⟩
  | .hbm, ⟨52, _⟩ => ⟨S4x8192x8x64, .f32⟩
  | .hbm, ⟨53, _⟩ => ⟨S4x8192x512, .f32⟩
  | .hbm, ⟨54, _⟩ => ⟨S4x8192x8x64, .f32⟩
  | .hbm, ⟨55, _⟩ => ⟨S64, .f32⟩
  | .hbm, ⟨56, _⟩ => ⟨S4x8192x8x64, .f32⟩
  | .hbm, ⟨57, _⟩ => ⟨S_, .f32⟩
  | .hbm, ⟨58, _⟩ => ⟨S4x8192x8, .f32⟩
  | .hbm, ⟨59, _⟩ => ⟨S4x8192x8x1, .f32⟩
  | .hbm, ⟨60, _⟩ => ⟨S_, .f32⟩
  | .hbm, ⟨61, _⟩ => ⟨S4x8192x8x1, .f32⟩
  | .hbm, ⟨62, _⟩ => ⟨S4x8192x8x1, .f32⟩
  | .hbm, ⟨63, _⟩ => ⟨S_, .f32⟩
  | .hbm, ⟨64, _⟩ => ⟨S4x8192x8x1, .f32⟩
  | .hbm, ⟨65, _⟩ => ⟨S4x8192x8x1, .f32⟩
  | .hbm, ⟨66, _⟩ => ⟨S4x8192x8x1, .f32⟩
  | .hbm, ⟨67, _⟩ => ⟨S4x8192x8x64, .f32⟩
  | .hbm, ⟨68, _⟩ => ⟨S4x8192x8x64, .f32⟩
  | .hbm, ⟨69, _⟩ => ⟨S1x1x1x64, .f32⟩
  | .hbm, ⟨70, _⟩ => ⟨S4x8192x8x64, .f32⟩
  | .hbm, ⟨71, _⟩ => ⟨S4x8192x8x64, .f32⟩
  | .hbm, ⟨72, _⟩ => ⟨S4x8192x512, .f32⟩
  | .hbm, ⟨73, _⟩ => ⟨S4x8192x4x128, .f32⟩
  | .hbm, ⟨74, _⟩ => ⟨S128, .f32⟩
  | .hbm, ⟨75, _⟩ => ⟨S4x8192x4x128, .f32⟩
  | .hbm, ⟨76, _⟩ => ⟨S_, .f32⟩
  | .hbm, ⟨77, _⟩ => ⟨S4x8192x4, .f32⟩
  | .hbm, ⟨78, _⟩ => ⟨S4x8192x4x1, .f32⟩
  | .hbm, ⟨79, _⟩ => ⟨S_, .f32⟩
  | .hbm, ⟨80, _⟩ => ⟨S4x8192x4x1, .f32⟩
  | .hbm, ⟨81, _⟩ => ⟨S4x8192x4x1, .f32⟩
  | .hbm, ⟨82, _⟩ => ⟨S_, .f32⟩
  | .hbm, ⟨83, _⟩ => ⟨S4x8192x4x1, .f32⟩
  | .hbm, ⟨84, _⟩ => ⟨S4x8192x4x1, .f32⟩
  | .hbm, ⟨85, _⟩ => ⟨S4x8192x4x1, .f32⟩
  | .hbm, ⟨86, _⟩ => ⟨S4x8192x4x128, .f32⟩
  | .hbm, ⟨87, _⟩ => ⟨S4x8192x4x128, .f32⟩
  | .hbm, ⟨88, _⟩ => ⟨S1x1x1x128, .f32⟩
  | .hbm, ⟨89, _⟩ => ⟨S4x8192x4x128, .f32⟩
  | .hbm, ⟨90, _⟩ => ⟨S4x8192x4x128, .f32⟩
  | .hbm, ⟨91, _⟩ => ⟨S4x8192x512, .f32⟩
  | .hbm, ⟨92, _⟩ => ⟨S4x512x8192, .f32⟩
  | .hbm, ⟨93, _⟩ => ⟨S4x512x8192, .f32⟩
  | .hbm, ⟨94, _⟩ => ⟨S4x64x8192, .f32⟩
  | .hbm, ⟨95, _⟩ => ⟨S_, .f32⟩
  | .hbm, ⟨96, _⟩ => ⟨S4x8192x8, .f32⟩
  | .hbm, ⟨97, _⟩ => ⟨S4x8192x8, .f32⟩
  | .hbm, ⟨98, _⟩ => ⟨S4x8x8192, .f32⟩
  | .hbm, ⟨99, _⟩ => ⟨S_, .f32⟩
  | .hbm, ⟨100, _⟩ => ⟨S4x8192x512, .f32⟩
  | .hbm, ⟨101, _⟩ => ⟨S4x8192x512, .f32⟩
  | .hbm, ⟨102, _⟩ => ⟨S4x512x8192, .f32⟩
  | .hbm, ⟨103, _⟩ => ⟨S4x512x8192, .bf16⟩
  | .hbm, ⟨104, _⟩ => ⟨S4x512x8192, .f32⟩
  | .hbm, ⟨105, _⟩ => ⟨S4x512x8192, .bf16⟩
  | .hbm, ⟨106, _⟩ => ⟨S4x8192x512, .bf16⟩
  | .hbm, ⟨107, _⟩ => ⟨S4x8192x512, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_5 : Ref sig .tc := ⟨.hbm, 57, rfl⟩
abbrev main_v45 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_8 : Ref sig .tc := ⟨.hbm, 76, rfl⟩
abbrev main_v61 : Ref sig .tc := ⟨.hbm, 77, rfl⟩
abbrev main_v62 : Ref sig .tc := ⟨.hbm, 78, rfl⟩
abbrev main_cst_9 : Ref sig .tc := ⟨.hbm, 79, rfl⟩
abbrev main_v63 : Ref sig .tc := ⟨.hbm, 80, rfl⟩
abbrev main_v64 : Ref sig .tc := ⟨.hbm, 81, rfl⟩
abbrev main_cst_10 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_cst_11 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_cst_12 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩

abbrev nD : Nat := 1
abbrev τ : Topo := Topo.v7x

variable {F : FTy → Type} [FloatOps F]
-- ==== Proof.Base.lean ====
/-
  Scalar formulas shared by the calls of the layer, over the extended reals: a row divided by its root mean
  square, and sums cut into equal tiles.
-/
module

public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Layer

/-- Entry `k` of the row `x` of 1024 numbers divided by its root mean square and multiplied by the gain `g`. -/
def rmsRow (x g : Fin 1024 → EReal) (k : Fin 1024) : EReal :=
  x k * Ideal.rsqrt (Ideal.div (∑ l, x l * x l) (Ideal.ofBits .f32 0x44800000#32) + Ideal.ofBits .f32 0x358637BD#32) * g k

/-- The product of a row with one column of a matrix. -/
def rowDot {n : Nat} (h w : Fin n → EReal) : EReal := ∑ k, h k * w k

/-- The gated unit: `gate` times its logistic, times `up`. -/
def gated (gate up : EReal) : EReal := gate * Ideal.logistic gate * up

end Cert.Layer

end
-- ==== Proof.KvBody.lean ====
/-
  What one grid point of the memory keys-and-values kernel stores: the keys and the values of its 512 rows.
-/
module

public import proofs.«01_k».proof.Proof.Base
public import proofs.«01_k».proof.Proof.Gen.MemKvIdeal.Frame

@[expose] public section

set_option maxRecDepth 16384

noncomputable section

open Idealize.ShloMosaic Idealize.ShloMosaic.TcCoe Idealize.SL.Sem

namespace Cert.MemKvIdeal.Body
open Cert.MemKvIdeal Cert.MemKvIdeal.Gen Cert.Layer

/-- Column `c` of the product of the normalised row `r` with the weights, read off the blocks. -/
def kvRow (x0 : FVec Ideal S512x1024 .f32) (x1 : FVec Ideal S1x1024 .f32) (x2 : FVec Ideal S1024x1024 .bf16) (r : Fin 512) (c : Fin 1024) : EReal :=
  rowDot (rmsRow (fun l => x0 (ix2 r l)) fun l => x1 (ix2 0 l)) fun k => x2 (ix2 k c)

/-- The block of keys at a row and a column. -/
theorem key_out (x0 : FVec Ideal S512x1024 .f32) (x1 : FVec Ideal S1x1024 .f32) (x2 : FVec Ideal S1024x1024 .bf16) (x3 : FVec Ideal S1x512 .f32) (x4 : FVec Ideal S512x512 .bf16) (r : Fin 512) (q : Fin 512) :
    out0_5 (F := Ideal) x0 x1 x2 x3 x4 (ix2 r q) = kvRow x0 x1 x2 r ⟨q.val, by omega⟩ * Ideal.rsqrt (
      (∑ l : Fin 512, kvRow x0 x1 x2 r ⟨l.val, by omega⟩ * kvRow x0 x1 x2 r ⟨l.val, by omega⟩ * x4 (ix2 l q)
        + ∑ l : Fin 512, (kvRow x0 x1 x2 r ⟨l.val, by omega⟩ * kvRow x0 x1 x2 r ⟨l.val, by omega⟩
          - kvRow x0 x1 x2 r ⟨l.val, by omega⟩ * kvRow x0 x1 x2 r ⟨l.val, by omega⟩) * x4 (ix2 l q))
      * Ideal.ofBits .f32 0x3C000000#32 + Ideal.ofBits .f32 0x358637BD#32) * x3 (ix2 0 q) := by
  unfold out0_5
  frame_out
  pointwise [k0_pay1, k0_pay2, k0_pay3, kvRow, rowDot, rmsRow]

/-- The block of values at a row and a column. -/
theorem value_out (x0 : FVec Ideal S512x1024 .f32) (x1 : FVec Ideal S1x1024 .f32) (x2 : FVec Ideal S1024x1024 .bf16) (x3 : FVec Ideal S1x512 .f32) (x4 : FVec Ideal S512x512 .bf16) (r : Fin 512) (q : Fin 512) :
    out0_6 (F := Ideal) x0 x1 x2 x3 x4 (ix2 r q) = kvRow x0 x1 x2 r ⟨512 + q.val, by omega⟩ := by
  unfold out0_6
  frame_out
  pointwise [k0_pay1, k0_pay2, k0_pay3, kvRow, rowDot, rmsRow]

end Cert.MemKvIdeal.Body

end
-- ==== Proof.KvSpec.lean ====
/-
  The keys and values of the memory tokens as a formula, and what the kernel's own way of adding the squares of a
  group amounts to: where the gain and the weights are finite numbers, every key is finite, so a square differs from
  itself by zero, and the product with the matrix of groups is the sum over the group.
-/
module

public import proofs.«01_k».proof.Proof.Base

@[expose] public section

set_option maxRecDepth 16384

noncomputable section

open Idealize.ShloMosaic Idealize.ShloMosaic.TcCoe Idealize.SL.Sem

namespace Cert.Layer

/-- An extended real that is a number. -/
def IsReal (x : EReal) : Prop := ∃ r : ℝ, x = (r : EReal)

theorem IsReal.mul {x y : EReal} (hx : IsReal x) (hy : IsReal y) : IsReal (x * y) := by
  obtain ⟨r, rfl⟩ := hx
  obtain ⟨s, rfl⟩ := hy
  exact ⟨r * s, (EReal.coe_mul r s).symm⟩

theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih =>
    obtain ⟨r, hr⟩ := h a
    obtain ⟨t, ht⟩ := ih
    exact ⟨r + t, by rw [Finset.sum_insert ha, hr, ht, EReal.coe_add]⟩

theorem IsReal.sub_self {x : EReal} (h : IsReal x) : x - x = 0 := by
  obtain ⟨r, rfl⟩ := h
  rw [← EReal.coe_sub, _root_.sub_self, EReal.coe_zero]

/-- An extended real away from both infinities is a number. -/
theorem isReal_of_ne {x : EReal} (h : ¬(x = ⊤ ∨ x = ⊥)) : IsReal x := by
  induction x using EReal.rec with
  | bot => exact absurd (Or.inr rfl) h
  | top => exact absurd (Or.inl rfl) h
  | coe r => exact ⟨r, rfl⟩

theorem ofBits_1024 : Ideal.ofBits .f32 0x44800000#32 = ((1024 : ℝ) : EReal) := by
  simp [Ideal.ofBits, Ideal.ieee, -EReal.coe_mul]; norm_num

theorem ofBits_128 : Ideal.ofBits .f32 0x43000000#32 = ((128 : ℝ) : EReal) := by
  simp [Ideal.ofBits, Ideal.ieee, -EReal.coe_mul]; norm_num

theorem ofBits_inv_128 : Ideal.ofBits .f32 0x3C000000#32 = (((128 : ℝ)⁻¹ : ℝ) : EReal) := by
  simp [Ideal.ofBits, Ideal.ieee, -EReal.coe_mul]; norm_num

/-- The constant under the root is a positive number. -/
theorem eps_pos : ∃ e : ℝ, 0 < e ∧ Ideal.ofBits .f32 0x358637BD#32 = (e : EReal) := by
  refine ⟨(8796093 : ℝ) * 2 ^ (-43 : Int), by positivity, ?_⟩
  simp [Ideal.ofBits, Ideal.ieee, -EReal.coe_mul]

/-- The product with 1/128 is the quotient by 128. -/
theorem div_128 (x : EReal) : Ideal.div x (Ideal.ofBits .f32 0x43000000#32) = x * Ideal.ofBits .f32 0x3C000000#32 := by
  rw [ofBits_128, ofBits_inv_128, Ideal.div, if_neg (by exact_mod_cast (by norm_num : (128 : ℝ) ≠ 0)), ← EReal.coe_inv]

/-- A square is not negative. -/
theorem mul_self_nonneg' (x : EReal) : 0 ≤ x * x := by
  induction x using EReal.rec with
  | bot => simp
  | top => simp
  | coe r => rw [← EReal.coe_mul]; exact_mod_cast mul_self_nonneg r

/-- The entries of a normalised row are numbers as soon as the gain is: an infinite row is divided to zero. -/
theorem rmsRow_real (x g : Fin 1024 → EReal) (hg : ∀ k, IsReal (g k)) (k : Fin 1024) : IsReal (rmsRow x g k) := by
  refine IsReal.mul ?_ (hg k)
  obtain ⟨e, he, hE⟩ := eps_pos
  have hS : 0 ≤ ∑ l, x l * x l := Finset.sum_nonneg fun l _ => mul_self_nonneg' (x l)
  have hk : x k * x k ≤ ∑ l, x l * x l := Finset.single_le_sum (f := fun l => x l * x l) (fun l _ => mul_self_nonneg' (x l)) (Finset.mem_univ k)
  rw [hE, ofBits_1024, Ideal.div, if_neg (by exact_mod_cast (by norm_num : (1024 : ℝ) ≠ 0)), ← EReal.coe_inv]
  generalize (∑ l, x l * x l) = S at hS hk
  induction S using EReal.rec with
  | bot => exact absurd hS (by simp)
  | top =>
    rw [EReal.top_mul_coe_of_pos (by norm_num), EReal.top_add_coe]
    show IsReal (x k * Ideal.rsqrt ⊤)
    rw [show Ideal.rsqrt (⊤ : EReal) = 0 from rfl, mul_zero]
    exact ⟨0, EReal.coe_zero.symm⟩
  | coe s =>
    have hs : 0 ≤ s := by exact_mod_cast hS
    have hx : IsReal (x k) := by
      refine isReal_of_ne fun h => ?_
      rcases h with h | h <;> rw [h] at hk <;> simp at hk
    have hp : 0 < s * (1024 : ℝ)⁻¹ + e := by positivity
    refine hx.mul ⟨(Real.sqrt (s * (1024 : ℝ)⁻¹ + e))⁻¹, ?_⟩
    rw [← EReal.coe_mul, ← EReal.coe_add]
    show (if s * (1024 : ℝ)⁻¹ + e < 0 then (⊥ : EReal) else if s * (1024 : ℝ)⁻¹ + e = 0 then ⊤ else ((Real.sqrt (s * (1024 : ℝ)⁻¹ + e))⁻¹ : ℝ)) = _
    rw [if_neg (not_lt.mpr hp.le), if_neg hp.ne']

theorem rowDot_real {n : Nat} (h w : Fin n → EReal) (hh : ∀ k, IsReal (h k)) (hw : ∀ k, IsReal (w k)) : IsReal (rowDot h w) :=
  IsReal.sum _ _ fun k => (hh k).mul (hw k)

/-- One where two columns lie in the same group of 128, zero elsewhere. -/
def sameGroup (l q : Fin 512) : EReal := if l.val / 128 = q.val / 128 then 1 else 0

/-- The squares times the matrix of groups, and the differences times it, are together the sum over the group. -/
theorem group_sum (s : Fin 512 → EReal) (hs : ∀ l, IsReal (s l)) (q : Fin 512) :
    ∑ l, s l * sameGroup l q + ∑ l, (s l - s l) * sameGroup l q
      = ∑ d : Fin 128, s ⟨q.val / 128 * 128 + d.val, by omega⟩ := by
  have h0 : ∑ l, (s l - s l) * sameGroup l q = 0 :=
    Finset.sum_eq_zero fun l _ => by rw [(hs l).sub_self, zero_mul]
  rw [h0, add_zero, Fin.sum_univ_tiles 4 128 rfl (fun l : Fin 512 => s l * sameGroup l q),
    Finset.sum_eq_single (⟨q.val / 128, by omega⟩ : Fin 4)]
  · refine Finset.sum_congr rfl fun d _ => ?_
    rw [sameGroup, if_pos (by show (q.val / 128 * 128 + d.val) / 128 = q.val / 128; omega), mul_one]
  · intro c _ hc
    refine Finset.sum_eq_zero fun d _ => ?_
    rw [sameGroup, if_neg, mul_zero]
    intro h
    refine hc (Fin.ext ?_)
    have h' : (c.val * 128 + d.val) / 128 = q.val / 128 := h
    show c.val = q.val / 128
    omega
  · intro h; exact absurd (Finset.mem_univ _) h

/-- Row `r` of the memory tokens laid end to end. -/
def memRow (x : (⟨3, ![4, 256, 1024]⟩ : Shape).Idx → EReal) (r : Fin 1024) (l : Fin 1024) : EReal :=
  x (ix3 ⟨r.val / 256, by omega⟩ ⟨r.val % 256, by omega⟩ l)

/-- Column `q` of the product of the normalised row with the weights: keys first, values after them. -/
def kvAt (x : (⟨3, ![4, 256, 1024]⟩ : Shape).Idx → EReal) (g : (⟨2, ![1, 1024]⟩ : Shape).Idx → EReal)
    (w : (⟨3, ![1, 1024, 1024]⟩ : Shape).Idx → EReal) (r : Fin 1024) (q : Fin 1024) : EReal :=
  rowDot (rmsRow (memRow x r) fun l => g (ix2 0 l)) fun k => w (ix3 0 k q)

/-- The key of row `r` at column `q`: divided by the root mean square of its head, times the head's gain. -/
def memKeyAt (x : (⟨3, ![4, 256, 1024]⟩ : Shape).Idx → EReal) (g : (⟨2, ![1, 1024]⟩ : Shape).Idx → EReal)
    (w : (⟨3, ![1, 1024, 1024]⟩ : Shape).Idx → EReal) (kg : (⟨2, ![1, 128]⟩ : Shape).Idx → EReal)
    (r : Fin 1024) (q : Fin 512) : EReal :=
  kvAt x g w r ⟨q.val, by omega⟩ * Ideal.rsqrt (Ideal.div (∑ d : Fin 128,
      kvAt x g w r ⟨q.val / 128 * 128 + d.val, by omega⟩ * kvAt x g w r ⟨q.val / 128 * 128 + d.val, by omega⟩)
    (Ideal.ofBits .f32 0x43000000#32) + Ideal.ofBits .f32 0x358637BD#32) * kg (ix2 0 ⟨q.val % 128, by omega⟩)

/-- The value of row `r` at column `q`. -/
def memValueAt (x : (⟨3, ![4, 256, 1024]⟩ : Shape).Idx → EReal) (g : (⟨2, ![1, 1024]⟩ : Shape).Idx → EReal)
    (w : (⟨3, ![1, 1024, 1024]⟩ : Shape).Idx → EReal) (r : Fin 1024) (q : Fin 512) : EReal :=
  kvAt x g w r ⟨512 + q.val, by omega⟩

/-- The kernel's way to the same key. -/
theorem memKeyAt_groups (x : (⟨3, ![4, 256, 1024]⟩ : Shape).Idx → EReal) (g : (⟨2, ![1, 1024]⟩ : Shape).Idx → EReal)
    (w : (⟨3, ![1, 1024, 1024]⟩ : Shape).Idx → EReal) (kg : (⟨2, ![1, 128]⟩ : Shape).Idx → EReal)
    (hg : ∀ l, IsReal (g (ix2 0 l))) (hw : ∀ k q, IsReal (w (ix3 0 k q))) (r : Fin 1024) (q : Fin 512) :
    memKeyAt x g w kg r q = kvAt x g w r ⟨q.val, by omega⟩ * Ideal.rsqrt (
      (∑ l : Fin 512, kvAt x g w r ⟨l.val, by omega⟩ * kvAt x g w r ⟨l.val, by omega⟩ * sameGroup l q
        + ∑ l : Fin 512, (kvAt x g w r ⟨l.val, by omega⟩ * kvAt x g w r ⟨l.val, by omega⟩
          - kvAt x g w r ⟨l.val, by omega⟩ * kvAt x g w r ⟨l.val, by omega⟩) * sameGroup l q)
      * Ideal.ofBits .f32 0x3C000000#32 + Ideal.ofBits .f32 0x358637BD#32) * kg (ix2 0 ⟨q.val % 128, by omega⟩) := by
  have hk : ∀ c : Fin 1024, IsReal (kvAt x g w r c) := fun c =>
    rowDot_real _ _ (rmsRow_real _ _ hg) fun k => hw k c
  rw [group_sum (fun l : Fin 512 => kvAt x g w r ⟨l.val, by omega⟩ * kvAt x g w r ⟨l.val, by omega⟩)
    (fun l => (hk _).mul (hk _)) q, ← div_128]
  rfl

end Cert.Layer

end
-- ==== Proof.KvEntry.lean ====
/-
  What the memory keys-and-values kernel reads: the host's reshapes of the arguments, the gains of the heads side by
  side, and the matrix of groups, entry by entry.
-/
module

public import proofs.«01_k».proof.Proof.KvSpec
public import proofs.«01_k».proof.Proof.Gen.MemKvIdeal.Value

@[expose] public section

set_option maxRecDepth 16384

noncomputable section

open Idealize.ShloMosaic Idealize.ShloMosaic.TcCoe Idealize.SL.Sem
open Idealize.ShloMosaic.Pipeline (Dat)

namespace Cert.MemKvIdeal.Value
open Cert.MemKvIdeal Cert.MemKvIdeal.Gen Cert.Layer

variable (m : (ℓ : Loc nD τ sig) → Buf (Elt Ideal) ℓ)

/-- The rows the kernel reads are the memory tokens laid end to end. -/
theorem rows_in (c : Dev nD) (r l : Fin 1024) :
    V m c main_v0 (ix2 r l) = memRow (m ((c : Thread nD τ).loc main_arg0)) r l := by
  simp only [V, List.flatten_cons, List.flatten_nil, List.append_nil, List.cons_append, List.nil_append]
  after_results_simp
  pointwise [memRow]

/-- The gain the kernel reads. -/
theorem gain_in (c : Dev nD) (l : Fin 1024) : V m c main_v12 (ix2 0 l) = m ((c : Thread nD τ).loc main_arg1) (ix2 0 l) := by
  simp only [V, List.flatten_cons, List.flatten_nil, List.append_nil, List.cons_append, List.nil_append]
  after_results_simp
  pointwise

/-- The weights the kernel reads. -/
theorem weights_in (c : Dev nD) (k q : Fin 1024) : V m c main_v13 (ix2 k q) = m ((c : Thread nD τ).loc main_arg2) (ix3 0 k q) := by
  simp only [V, List.flatten_cons, List.flatten_nil, List.append_nil, List.cons_append, List.nil_append]
  after_results_simp
  pointwise

/-- The gain of the keys the kernel reads: the same for every head. -/
theorem key_gain_in (c : Dev nD) (q : Fin 512) : V m c main_v17 (ix2 0 q) = m ((c : Thread nD τ).loc main_arg3) (ix2 0 ⟨q.val % 128, by omega⟩) := by
  simp only [V, List.flatten_cons, List.flatten_nil, List.append_nil, List.cons_append, List.nil_append]
  after_results_simp
  pointwise

/-- The host's number of the group a column lies in: the quotient by 128, corrected where the signs differ. -/
def groupIndex : IVec S512 32 :=
  select (andi (cmpi .ne (signi (iotaInDim S512 32 0)) (broadcastInDim S512 ![] bcast_S_S512 (signi (constantI S_ 32 128#32))))
      (cmpi .ne (Host.remsi (iotaInDim S512 32 0) (broadcastInDim S512 ![] bcast_S_S512 (constantI S_ 32 128#32)))
        (broadcastInDim S512 ![] bcast_S_S512 (constantI S_ 32 0#32))))
    (subi (Host.divsi (iotaInDim S512 32 0) (broadcastInDim S512 ![] bcast_S_S512 (constantI S_ 32 128#32)))
      (broadcastInDim S512 ![] bcast_S_S512 (constantI S_ 32 1#32)))
    (Host.divsi (iotaInDim S512 32 0) (broadcastInDim S512 ![] bcast_S_S512 (constantI S_ 32 128#32)))

/-- The correction never applies: the number is the quotient. -/
theorem groupIndex_at : ∀ l : Fin 512, groupIndex (ix1 l) = BitVec.ofNat 32 (l.val / 128) := by
  decide +kernel

/-- Two columns have one number exactly where their quotients agree. -/
theorem group_eq : ∀ a b : Fin 4, (BitVec.ofNat 32 a.val = BitVec.ofNat 32 b.val) ↔ a.val = b.val := by
  decide +kernel

/-- The matrix the host lays out, from the numbers of the groups. -/
theorem groups_eq (c : Dev nD) : V m c main_v11 = uitofp (F := Ideal) .bf16 (cmpi .eq
    (broadcastInDim S512x512 ![0, 1] bcast_S512x1_S512x512_0_1 (broadcastInDim S512x1 ![0] bcast_S512_S512x1_0 groupIndex))
    (broadcastInDim S512x512 ![0, 1] bcast_S1x512_S512x512_0_1 (broadcastInDim S1x512 ![1] bcast_S512_S1x512_1 groupIndex))) := by
  simp only [V, List.flatten_cons, List.flatten_nil, List.append_nil, List.cons_append, List.nil_append]
  after_results_simp
  rfl

/-- The matrix of groups the kernel reads. -/
theorem groups_in (c : Dev nD) (l q : Fin 512) : V m c main_v11 (ix2 l q) = sameGroup l q := by
  rw [groups_eq]
  have h0 : groupIndex (ix1 l) = BitVec.ofNat 32 (l.val / 128) := groupIndex_at l
  have h1 : groupIndex (ix1 q) = BitVec.ofNat 32 (q.val / 128) := groupIndex_at q
  have h2 := group_eq ⟨l.val / 128, by omega⟩ ⟨q.val / 128, by omega⟩
  generalize groupIndex = G at h0 h1
  pointwise
  rw [h0, h1]
  unfold sameGroup
  by_cases h : l.val / 128 = q.val / 128
  · rw [if_pos h, h]
    simp [IntOp.cmpi, FloatOps.uitofp]
  · rw [if_neg h]
    have hne : (BitVec.ofNat 32 (l.val / 128) == BitVec.ofNat 32 (q.val / 128)) = false := beq_eq_false_iff_ne.mpr fun e => h (h2.mp e)
    simp [IntOp.cmpi, FloatOps.uitofp, hne]

end Cert.MemKvIdeal.Value

end
-- ==== Proof.KvValue.lean ====
/-
  The two arrays the memory keys-and-values kernel returns, at every row and column.
-/
module

public import proofs.«01_k».proof.Proof.KvBody
public import proofs.«01_k».proof.Proof.KvEntry

@[expose] public section

set_option maxRecDepth 16384

noncomputable section

open Idealize.ShloMosaic Idealize.ShloMosaic.TcCoe Idealize.SL.Sem
open Idealize.ShloMosaic.Pipeline (Dat)

namespace Cert.MemKvIdeal.Value
open Cert.MemKvIdeal Cert.MemKvIdeal.Gen Cert.Layer Cert.MemKvIdeal.Body

variable (m : (ℓ : Loc nD τ sig) → Buf (Elt Ideal) ℓ)

/-- Where each window's block sits at a grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0] ∧ t.val < 2 :=
  (by decide +kernel : ∀ t : Fin grid0.N, _)

/-- The keys of every row, as one array. -/
def keys (x : FVec Ideal S4x256x1024 .f32) (g : FVec Ideal S1x1024 .f32) (w : FVec Ideal S1x1024x1024 .f32) (kg : FVec Ideal S1x128 .f32) : FVec Ideal S1024x512 .f32 :=
  fun i => memKeyAt x g w kg (i 0) (i 1)

/-- The values of every row, as one array. -/
def values (x : FVec Ideal S4x256x1024 .f32) (g : FVec Ideal S1x1024 .f32) (w : FVec Ideal S1x1024x1024 .f32) : FVec Ideal S1024x512 .f32 :=
  fun i => memValueAt x g w (i 0) (i 1)

/-- A grid point's product row is the row of the whole batch. -/
theorem kvRow_in (c : Dev nD) (t : Fin cfg0.N) (r : Fin 512) (q : Fin 1024) (h : t.val * 512 + r.val < 1024) :
    kvRow (iblk m c 0 t) (iblk m c 1 t) (iblk m c 2 t) r q
    = kvAt (m ((c : Thread nD τ).loc main_arg0)) (m ((c : Thread nD τ).loc main_arg1)) (m ((c : Thread nD τ).loc main_arg2)) ⟨t.val * 512 + r.val, h⟩ q := by
  have b0 : ∀ l : Fin 1024, iblk m c 0 t (ix2 r l) = memRow (m ((c : Thread nD τ).loc main_arg0)) ⟨t.val * 512 + r.val, h⟩ l := fun l => by
    refine Eq.trans ?_ (rows_in m c ⟨t.val * 512 + r.val, h⟩ l); blk_ext [iblk, idx t]
  have b1 : ∀ l : Fin 1024, iblk m c 1 t (ix2 0 l) = m ((c : Thread nD τ).loc main_arg1) (ix2 0 l) := fun l => by
    refine Eq.trans ?_ (gain_in m c l); blk_ext [iblk, idx t]
  have b2 : ∀ (k : Fin 1024), iblk m c 2 t (ix2 k q) = m ((c : Thread nD τ).loc main_arg2) (ix3 0 k q) := fun k => by
    refine Eq.trans ?_ (weights_in m c k q); blk_ext [iblk, idx t]
  unfold kvRow kvAt
  simp only [b0, b1, b2]

/-- What a grid point stores of the keys, where the gain and the weights are numbers. -/
theorem key_point (c : Dev nD) (hg : ∀ l : Fin 1024, IsReal (m ((c : Thread nD τ).loc main_arg1) (ix2 0 l)))
    (hw : ∀ k q : Fin 1024, IsReal (m ((c : Thread nD τ).loc main_arg2) (ix3 0 k q)))
    (t : Fin cfg0.N) (r : Fin 512) (q : Fin 512) (h : t.val * 512 + r.val < 1024) :
    out0_5 (F := Ideal) (iblk m c 0 t) (iblk m c 1 t) (iblk m c 2 t) (iblk m c 3 t) (iblk m c 4 t) (ix2 r q)
    = memKeyAt (m ((c : Thread nD τ).loc main_arg0)) (m ((c : Thread nD τ).loc main_arg1)) (m ((c : Thread nD τ).loc main_arg2)) (m ((c : Thread nD τ).loc main_arg3)) ⟨t.val * 512 + r.val, h⟩ q := by
  have b3 : iblk m c 3 t (ix2 0 q) = m ((c : Thread nD τ).loc main_arg3) (ix2 0 ⟨q.val % 128, by omega⟩) := by
    refine Eq.trans ?_ (key_gain_in m c q); blk_ext [iblk, idx t]
  have b4 : ∀ l : Fin 512, iblk m c 4 t (ix2 l q) = sameGroup l q := fun l => by
    refine Eq.trans ?_ (groups_in m c l q); blk_ext [iblk, idx t]
  refine (key_out (iblk m c 0 t) (iblk m c 1 t) (iblk m c 2 t) (iblk m c 3 t) (iblk m c 4 t) r q).trans ?_
  rw [memKeyAt_groups _ _ _ _ hg hw]
  have hk : ∀ q : Fin 1024, kvRow (iblk m c 0 t) (iblk m c 1 t) (iblk m c 2 t) r q = _ := fun q => kvRow_in m c t r q h
  simp only [hk, b3, b4]

/-- The same at an index of the block, against the array. -/
theorem key_point_idx (c : Dev nD) (hg : ∀ l : Fin 1024, IsReal (m ((c : Thread nD τ).loc main_arg1) (ix2 0 l)))
    (hw : ∀ k q : Fin 1024, IsReal (m ((c : Thread nD τ).loc main_arg2) (ix3 0 k q))) (t : Fin cfg0.N) (y : S512x512.Idx) :
    out0_5 (F := Ideal) (iblk m c 0 t) (iblk m c 1 t) (iblk m c 2 t) (iblk m c 3 t) (iblk m c 4 t) y
    = keys (m ((c : Thread nD τ).loc main_arg0)) (m ((c : Thread nD τ).loc main_arg1)) (m ((c : Thread nD τ).loc main_arg2)) (m ((c : Thread nD τ).loc main_arg3)) (((cfg0.win 5).blk t).view.emb y) := by
  idx_vars y
  have ht := (idx t).2.2.2.2.2.2.2
  refine (key_point m c hg hw t y0 y1 (by omega)).trans ?_
  unfold keys
  refine congrArg₂ (memKeyAt _ _ _ _) (Fin.ext ?_) (Fin.ext ?_) <;> blk_simp [idx t] <;> try omega

/-- What a grid point stores of the values, against the array. -/
theorem value_point_idx (c : Dev nD) (t : Fin cfg0.N) (y : S512x512.Idx) :
    out0_6 (F := Ideal) (iblk m c 0 t) (iblk m c 1 t) (iblk m c 2 t) (iblk m c 3 t) (iblk m c 4 t) y
    = values (m ((c : Thread nD τ).loc main_arg0)) (m ((c : Thread nD τ).loc main_arg1)) (m ((c : Thread nD τ).loc main_arg2)) (((cfg0.win 6).blk t).view.emb y) := by
  idx_vars y
  have ht := (idx t).2.2.2.2.2.2.2
  refine (value_out _ _ _ _ _ y0 y1).trans ?_
  refine (kvRow_in m c t y0 _ (by omega)).trans ?_
  unfold values
  show memValueAt _ _ _ ⟨t.val * 512 + y0.val, by omega⟩ y1 = _
  refine congrArg₂ (memValueAt _ _ _) (Fin.ext ?_) (Fin.ext ?_) <;> blk_simp [idx t] <;> try omega

/-- The array of keys after the run. -/
theorem final_keys (c : Dev nD) (hg : ∀ l : Fin 1024, IsReal (m ((c : Thread nD τ).loc main_arg1) (ix2 0 l)))
    (hw : ∀ k q : Fin 1024, IsReal (m ((c : Thread nD τ).loc main_arg2) (ix3 0 k q))) : (dats m 0 c).arrAt 5 (cfgs 0).N
    = keys (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  exact key_point_idx m c hg hw t y

/-- The array of values after the run. -/
theorem final_values (c : Dev nD) : (dats m 0 c).arrAt 6 (cfgs 0).N
    = values (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  exact value_point_idx m c t y

end Cert.MemKvIdeal.Value

end
-- ==== Proof.KvRef.lean ====
/-
  The reference of the memory keys and values, read at a row and a column.
-/
module

public import proofs.«01_k».proof.Proof.KvSpec
public import proofs.«01_k».proof.Proof.Gen.MemKvRefIdeal.Read

@[expose] public section

set_option maxRecDepth 16384

noncomputable section

open Idealize.ShloMosaic Idealize.ShloMosaic.TcCoe Idealize.SL.Sem

namespace Cert.MemKvRefIdeal.At
open Cert.MemKvRefIdeal Cert.MemKvRefIdeal.Gen Cert.MemKvRefIdeal.Read Cert.Layer

/-- The reference's key at a row and a column. -/
theorem key_at (x : FVec Ideal S4x256x1024 .f32) (g : FVec Ideal S1x1024 .f32) (w : FVec Ideal S1x1024x1024 .f32) (kg : FVec Ideal S1x128 .f32)
    (r : Fin 1024) (q : Fin 512) :
    val_main_v33 (F := Ideal) x g w kg (ix2 r q) = memKeyAt x g w kg r q := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_v15, val_main_v16, val_main_v18, val_main_v19, val_main_v20, val_main_cst_2, val_main_v21, val_main_v22, val_main_cst_3, val_main_v23, val_main_v24, val_main_cst_4, val_main_v25, val_main_v26, val_main_v27, val_main_v28, val_main_v29, val_main_v30, val_main_v31, val_main_v32, val_main_v33, memKeyAt, kvAt, rowDot, rmsRow, memRow]

/-- The reference's value at a row and a column. -/
theorem value_at (x : FVec Ideal S4x256x1024 .f32) (g : FVec Ideal S1x1024 .f32) (w : FVec Ideal S1x1024x1024 .f32)
    (r : Fin 1024) (q : Fin 512) :
    val_main_v34 (F := Ideal) x g w (ix2 r q) = memValueAt x g w r q := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_v15, val_main_v17, val_main_v34, memValueAt, kvAt, rowDot, rmsRow, memRow]

end Cert.MemKvRefIdeal.At

end
-- ==== Proof.KvClaim.lean ====
/-
  The value claim of the memory keys and values: run from the same arguments, the gain of the norm and the weights
  finite, the kernel and its reference return the same two arrays.
-/
module

public import proofs.«01_k».proof.Defs
public import proofs.«01_k».proof.Proof.Gen.MemKv
public import proofs.«01_k».proof.Proof.Gen.Pre_finite_weights
public import proofs.«01_k».proof.Proof.KvValue
public import proofs.«01_k».proof.Proof.KvRef
public import proofs.«01_k».proof.Proof.Gen.MemKvRefIdeal.Run

@[expose] public section

set_option maxRecDepth 16384

noncomputable section

open Idealize.ShloMosaic Idealize.ShloMosaic.TcCoe Idealize.SL.Sem

namespace Cert.KvClaim
open Cert.Layer

/-- A number below plus infinity in absolute value is neither infinity. -/
theorem isReal_of_abs (x : EReal) (h : Ideal.cmp .olt (max x (-x)) (Ideal.ofBits .f32 0x7F800000#32) = 1#1) : IsReal x := by
  refine isReal_of_ne fun hx => ?_
  rcases hx with rfl | rfl <;> simp [Ideal.cmp, Ideal.ofBits, Ideal.ieee] at h

/-- The precondition at an entry of the weights: that entry and the gain of its row are numbers. -/
theorem real_of_pre (x : FVec Ideal Cert.MemKvIdeal.S4x256x1024 .f32) (g : FVec Ideal Cert.MemKvIdeal.S1x1024 .f32)
    (w : FVec Ideal Cert.MemKvIdeal.S1x1024x1024 .f32) (kg : FVec Ideal Cert.MemKvIdeal.S1x128 .f32)
    (h : Cert.Pre_finite_weights.fn (F := Ideal) x g w kg = fun _ => 1#1) (k q : Fin 1024) :
    IsReal (w (ix3 0 k q)) ∧ IsReal (g (ix2 0 k)) := by
  have e : Cert.Pre_finite_weights.fn (F := Ideal) x g w kg (ix3 0 k q)
      = Ideal.cmp .olt (max (w (ix3 0 k q)) (-(w (ix3 0 k q)))) (Ideal.ofBits .f32 0x7F800000#32)
        &&& Ideal.cmp .olt (max (g (ix2 0 k)) (-(g (ix2 0 k)))) (Ideal.ofBits .f32 0x7F800000#32) := by
    pointwise [Cert.Pre_finite_weights.fn]
    rfl
  have h1 := e.symm.trans (congrFun h (ix3 0 k q))
  generalize ha : Ideal.cmp .olt (max (w (ix3 0 k q)) (-(w (ix3 0 k q)))) (Ideal.ofBits .f32 0x7F800000#32) = a at h1
  generalize hb : Ideal.cmp .olt (max (g (ix2 0 k)) (-(g (ix2 0 k)))) (Ideal.ofBits .f32 0x7F800000#32) = b at h1
  have hab : ∀ a b : BitVec 1, a &&& b = 1#1 → a = 1#1 ∧ b = 1#1 := by decide
  obtain ⟨h2, h3⟩ := hab a b h1
  exact ⟨isReal_of_abs _ (ha.trans h2), isReal_of_abs _ (hb.trans h3)⟩

/-- The reference's keys are the ones the kernel returns. -/
theorem reference_keys (x : FVec Ideal Cert.MemKvRefIdeal.S4x256x1024 .f32) (g : FVec Ideal Cert.MemKvRefIdeal.S1x1024 .f32)
    (w : FVec Ideal Cert.MemKvRefIdeal.S1x1024x1024 .f32) (kg : FVec Ideal Cert.MemKvRefIdeal.S1x128 .f32) :
    Cert.MemKvRefIdeal.Read.val_main_v33 (F := Ideal) x g w kg = Cert.MemKvIdeal.Value.keys x g w kg := by
  funext i
  idx_vars i
  exact Cert.MemKvRefIdeal.At.key_at x g w kg _ _

/-- The reference's values are the ones the kernel returns. -/
theorem reference_values (x : FVec Ideal Cert.MemKvRefIdeal.S4x256x1024 .f32) (g : FVec Ideal Cert.MemKvRefIdeal.S1x1024 .f32)
    (w : FVec Ideal Cert.MemKvRefIdeal.S1x1024x1024 .f32) :
    Cert.MemKvRefIdeal.Read.val_main_v34 (F := Ideal) x g w = Cert.MemKvIdeal.Value.values x g w := by
  funext i
  idx_vars i
  exact Cert.MemKvRefIdeal.At.value_at x g w _ _

theorem algebraic : Cert.algebraic_MemKvIdeal_MemKvRefIdeal_pre_finite_weights := by
  pair_intro
  · run_from Cert.MemKvIdeal.Gen.run_main m g
    · exact Cert.MemKvIdeal.Gen.V_main_arg0 m c
    · exact Cert.MemKvIdeal.Gen.V_main_arg1 m c
    · exact Cert.MemKvIdeal.Gen.V_main_arg2 m c
    · exact Cert.MemKvIdeal.Gen.V_main_arg3 m c
  · run_from Cert.MemKvRefIdeal.Value.run m' g'
    · refine (Cert.MemKvRefIdeal.Read.val_main_v33_eq _ _ _ _).trans ?_
      have hr := real_of_pre _ _ _ _ (hpre c)
      exact (reference_keys _ _ _ _).trans (Cert.MemKvIdeal.Value.final_keys m c (fun l => (hr l 0).2) fun k q => (hr k q).1).symm
    · refine (Cert.MemKvRefIdeal.Read.val_main_v34_eq _ _ _).trans ?_
      exact (reference_values _ _ _).trans (Cert.MemKvIdeal.Value.final_values m c).symm

end Cert.KvClaim

end
-- ==== Proof.ProjSpec.lean ====
/-
  The projections of a token as formulas: a column of the product of the normalised token with the weights, and the
  same divided by the root mean square of its head. The kernel adds the squares of a head by a product with a matrix of
  groups; where the columns are numbers this is the sum over the head.
-/
module

public import proofs.«01_k».proof.Proof.KvSpec

@[expose] public section

set_option maxRecDepth 16384

noncomputable section

open Idealize.ShloMosaic Idealize.ShloMosaic.TcCoe Idealize.SL.Sem

namespace Cert.Layer

theorem ofBits_64 : Ideal.ofBits .f32 0x42800000#32 = ((64 : ℝ) : EReal) := by
  simp [Ideal.ofBits, Ideal.ieee, -EReal.coe_mul]; norm_num

theorem ofBits_inv_64 : Ideal.ofBits .f32 0x3C800000#32 = (((64 : ℝ)⁻¹ : ℝ) : EReal) := by
  simp [Ideal.ofBits, Ideal.ieee, -EReal.coe_mul]; norm_num

theorem ofBits_one : Ideal.ofBits .f32 0x3F800000#32 = 1 := by
  rw [show (1 : EReal) = ((1 : ℝ) : EReal) from EReal.coe_one.symm]
  simp [Ideal.ofBits, Ideal.ieee, -EReal.coe_mul, -EReal.coe_one]
  norm_num

/-- The product with 1/64 is the quotient by 64. -/
theorem div_64 (x : EReal) : Ideal.div x (Ideal.ofBits .f32 0x42800000#32) = x * Ideal.ofBits .f32 0x3C800000#32 := by
  rw [ofBits_64, ofBits_inv_64, Ideal.div, if_neg (by exact_mod_cast (by norm_num : (64 : ℝ) ≠ 0)), ← EReal.coe_inv]

/-- One where two columns lie in the same group of 64, zero elsewhere. -/
def sameGroup64 (l q : Fin 512) : EReal := if l.val / 64 = q.val / 64 then 1 else 0

/-- The matrix of groups times the squares, and times the differences, are together the sum over the group. -/
theorem group_sum64 (s : Fin 512 → EReal) (hs : ∀ l, IsReal (s l)) (q : Fin 512) :
    ∑ l, sameGroup64 q l * s l + ∑ l, sameGroup64 q l * (s l - s l)
      = ∑ d : Fin 64, s ⟨q.val / 64 * 64 + d.val, by omega⟩ := by
  have h0 : ∑ l, sameGroup64 q l * (s l - s l) = 0 :=
    Finset.sum_eq_zero fun l _ => by rw [(hs l).sub_self, mul_zero]
  rw [h0, add_zero, Fin.sum_univ_tiles 8 64 rfl (fun l : Fin 512 => sameGroup64 q l * s l),
    Finset.sum_eq_single (⟨q.val / 64, by omega⟩ : Fin 8)]
  · refine Finset.sum_congr rfl fun d _ => ?_
    rw [sameGroup64, if_pos (by show q.val / 64 = (q.val / 64 * 64 + d.val) / 64; omega), one_mul]
  · intro c _ hc
    refine Finset.sum_eq_zero fun d _ => ?_
    rw [sameGroup64, if_neg, zero_mul]
    intro h
    refine hc (Fin.ext ?_)
    have h' : q.val / 64 = (c.val * 64 + d.val) / 64 := h
    show c.val = q.val / 64
    omega
  · intro h; exact absurd (Finset.mem_univ _) h

/-- A row of 512 columns, eight heads of 64, each head divided by its root mean square and multiplied by the gain. -/
def head64 (f : Fin 512 → EReal) (g : Fin 64 → EReal) (q : Fin 512) : EReal :=
  f q * Ideal.rsqrt (Ideal.div (∑ d : Fin 64, f ⟨q.val / 64 * 64 + d.val, by omega⟩ * f ⟨q.val / 64 * 64 + d.val, by omega⟩)
    (Ideal.ofBits .f32 0x42800000#32) + Ideal.ofBits .f32 0x358637BD#32) * g ⟨q.val % 64, by omega⟩

/-- The same with four heads of 128. -/
def head128 (f : Fin 512 → EReal) (g : Fin 128 → EReal) (q : Fin 512) : EReal :=
  f q * Ideal.rsqrt (Ideal.div (∑ d : Fin 128, f ⟨q.val / 128 * 128 + d.val, by omega⟩ * f ⟨q.val / 128 * 128 + d.val, by omega⟩)
    (Ideal.ofBits .f32 0x43000000#32) + Ideal.ofBits .f32 0x358637BD#32) * g ⟨q.val % 128, by omega⟩

/-- The kernel's way to a head of 64. -/
theorem head64_groups (f : Fin 512 → EReal) (hf : ∀ l, IsReal (f l)) (g : Fin 64 → EReal) (q : Fin 512) :
    head64 f g q = f q * Ideal.rsqrt (
      (∑ l, sameGroup64 q l * (f l * f l) + ∑ l, sameGroup64 q l * (f l * f l - f l * f l))
        * Ideal.ofBits .f32 0x3C800000#32 + Ideal.ofBits .f32 0x358637BD#32) * g ⟨q.val % 64, by omega⟩ := by
  rw [group_sum64 (fun l => f l * f l) (fun l => (hf l).mul (hf l)) q, ← div_64]
  rfl

/-- The kernel's way to a head of 128. -/
theorem head128_groups (f : Fin 512 → EReal) (hf : ∀ l, IsReal (f l)) (g : Fin 128 → EReal) (q : Fin 512) :
    head128 f g q = f q * Ideal.rsqrt (
      (∑ l, f l * f l * sameGroup l q + ∑ l, (f l * f l - f l * f l) * sameGroup l q)
        * Ideal.ofBits .f32 0x3C000000#32 + Ideal.ofBits .f32 0x358637BD#32) * g ⟨q.val % 128, by omega⟩ := by
  rw [group_sum (fun l => f l * f l) (fun l => (hf l).mul (hf l)) q, ← div_128]
  rfl

/-- Column `c` of the product of the normalised token `t` of sequence `b` with the weights. -/
def projAt (x : (⟨3, ![4, 8192, 1024]⟩ : Shape).Idx → EReal) (g : (⟨2, ![1, 1024]⟩ : Shape).Idx → EReal)
    (w : (⟨3, ![1, 1024, 6728]⟩ : Shape).Idx → EReal) (b : Fin 4) (t : Fin 8192) (c : Fin 6728) : EReal :=
  rowDot (rmsRow (fun l => x (ix3 b t l)) fun l => g (ix2 0 l)) fun k => w (ix3 0 k c)

theorem projAt_real (x : (⟨3, ![4, 8192, 1024]⟩ : Shape).Idx → EReal) (g : (⟨2, ![1, 1024]⟩ : Shape).Idx → EReal)
    (w : (⟨3, ![1, 1024, 6728]⟩ : Shape).Idx → EReal)
    (hg : ∀ l, IsReal (g (ix2 0 l))) (hw : ∀ k q, IsReal (w (ix3 0 k q))) (b : Fin 4) (t : Fin 8192) (c : Fin 6728) :
    IsReal (projAt x g w b t c) :=
  rowDot_real _ _ (rmsRow_real _ _ hg) fun k => hw k c

/-- The key of token `t` at column `q`: each head of 64 divided by its root mean square, times the gain. -/
def keyAt (x : (⟨3, ![4, 8192, 1024]⟩ : Shape).Idx → EReal) (g : (⟨2, ![1, 1024]⟩ : Shape).Idx → EReal)
    (w : (⟨3, ![1, 1024, 6728]⟩ : Shape).Idx → EReal) (kg : (⟨2, ![1, 64]⟩ : Shape).Idx → EReal) (b : Fin 4) (t : Fin 8192) (q : Fin 512) : EReal :=
  head64 (fun l => projAt x g w b t ⟨512 + l.val, by omega⟩) (fun d => kg (ix2 0 d)) q

/-- The query of token `t` at column `q`, scaled for an attention in powers of two. -/
def queryAt (x : (⟨3, ![4, 8192, 1024]⟩ : Shape).Idx → EReal) (g : (⟨2, ![1, 1024]⟩ : Shape).Idx → EReal)
    (w : (⟨3, ![1, 1024, 6728]⟩ : Shape).Idx → EReal) (qg : (⟨2, ![1, 64]⟩ : Shape).Idx → EReal) (b : Fin 4) (t : Fin 8192) (q : Fin 512) : EReal :=
  head64 (fun l => projAt x g w b t ⟨l.val, by omega⟩) (fun d => qg (ix2 0 d)) q * Ideal.ofBits .f32 0x3E38AA3B#32

/-- The query of the memory attention at column `q`: each head of 128 divided by its root mean square, times the gain. -/
def memQueryAt (x : (⟨3, ![4, 8192, 1024]⟩ : Shape).Idx → EReal) (g : (⟨2, ![1, 1024]⟩ : Shape).Idx → EReal)
    (w : (⟨3, ![1, 1024, 6728]⟩ : Shape).Idx → EReal) (mg : (⟨2, ![1, 128]⟩ : Shape).Idx → EReal) (b : Fin 4) (t : Fin 8192) (q : Fin 512) : EReal :=
  head128 (fun l => projAt x g w b t ⟨3144 + l.val, by omega⟩) (fun d => mg (ix2 0 d)) q

/-- The value of token `t` at column `q`. -/
def valueAt (x : (⟨3, ![4, 8192, 1024]⟩ : Shape).Idx → EReal) (g : (⟨2, ![1, 1024]⟩ : Shape).Idx → EReal)
    (w : (⟨3, ![1, 1024, 6728]⟩ : Shape).Idx → EReal) (b : Fin 4) (t : Fin 8192) (q : Fin 512) : EReal := projAt x g w b t ⟨1024 + q.val, by omega⟩

/-- The index query. -/
def indexQueryAt (x : (⟨3, ![4, 8192, 1024]⟩ : Shape).Idx → EReal) (g : (⟨2, ![1, 1024]⟩ : Shape).Idx → EReal)
    (w : (⟨3, ![1, 1024, 6728]⟩ : Shape).Idx → EReal) (b : Fin 4) (t : Fin 8192) (q : Fin 512) : EReal := projAt x g w b t ⟨1536 + q.val, by omega⟩

/-- The index key. -/
def indexKeyAt (x : (⟨3, ![4, 8192, 1024]⟩ : Shape).Idx → EReal) (g : (⟨2, ![1, 1024]⟩ : Shape).Idx → EReal)
    (w : (⟨3, ![1, 1024, 6728]⟩ : Shape).Idx → EReal) (b : Fin 4) (t : Fin 8192) (q : Fin 64) : EReal := projAt x g w b t ⟨2048 + q.val, by omega⟩

/-- The weight of an index head, scaled. -/
def indexWeightAt (x : (⟨3, ![4, 8192, 1024]⟩ : Shape).Idx → EReal) (g : (⟨2, ![1, 1024]⟩ : Shape).Idx → EReal)
    (w : (⟨3, ![1, 1024, 6728]⟩ : Shape).Idx → EReal) (b : Fin 4) (t : Fin 8192) (q : Fin 8) : EReal :=
  projAt x g w b t ⟨2112 + q.val, by omega⟩ * Ideal.ofBits .f32 0x3D3504F3#32

/-- The input of the recurrent block. -/
def recInputAt (x : (⟨3, ![4, 8192, 1024]⟩ : Shape).Idx → EReal) (g : (⟨2, ![1, 1024]⟩ : Shape).Idx → EReal)
    (w : (⟨3, ![1, 1024, 6728]⟩ : Shape).Idx → EReal) (b : Fin 4) (t : Fin 8192) (q : Fin 512) : EReal := projAt x g w b t ⟨2120 + q.val, by omega⟩

/-- The gate of the recurrent block. -/
def recGateAt (x : (⟨3, ![4, 8192, 1024]⟩ : Shape).Idx → EReal) (g : (⟨2, ![1, 1024]⟩ : Shape).Idx → EReal)
    (w : (⟨3, ![1, 1024, 6728]⟩ : Shape).Idx → EReal) (b : Fin 4) (t : Fin 8192) (q : Fin 512) : EReal := projAt x g w b t ⟨2632 + q.val, by omega⟩

end Cert.Layer

end
-- ==== Proof.ProjTok.lean ====
/-
  The normalised token of a block, its products with the columns of a matrix laid either way, and the two ways a head is
  divided by its root mean square.
-/
module

public import proofs.«01_k».proof.Proof.ProjSpec

@[expose] public section

set_option maxRecDepth 16384

noncomputable section

open Idealize.ShloMosaic Idealize.ShloMosaic.TcCoe Idealize.SL.Sem

namespace Cert.ProjIdeal.Body
open Cert.Layer

/-- The normalised token `t` of a block. -/
def tok (x0 : (⟨3, ![1, 512, 1024]⟩ : Shape).Idx → EReal) (x1 : (⟨2, ![1, 1024]⟩ : Shape).Idx → EReal) (t : Fin 512) : Fin 1024 → EReal :=
  rmsRow (fun l => x0 (ix3 0 t l)) fun l => x1 (ix2 0 l)

/-- Column `c` of the product, the weights laid with their columns as rows. -/
def colT {n : Nat} (w : (⟨2, ![n, 1024]⟩ : Shape).Idx → EReal) (h : Fin 1024 → EReal) (c : Fin n) : EReal :=
  rowDot (fun k => w (ix2 c k)) h

/-- Column `c` of the product. -/
def col {n : Nat} (w : (⟨2, ![1024, n]⟩ : Shape).Idx → EReal) (h : Fin 1024 → EReal) (c : Fin n) : EReal :=
  rowDot h fun k => w (ix2 k c)

/-- A head of 64 as the kernel adds it, the matrix of groups on the left. -/
def headT (f : Fin 512 → EReal) (G : (⟨2, ![512, 512]⟩ : Shape).Idx → EReal) (q : Fin 512) : EReal :=
  f q * Ideal.rsqrt ((∑ l, G (ix2 q l) * (f l * f l) + ∑ l, G (ix2 q l) * (f l * f l - f l * f l))
    * Ideal.ofBits .f32 0x3C800000#32 + Ideal.ofBits .f32 0x358637BD#32)

/-- A head of 128 as the kernel adds it, the matrix of groups on the right. -/
def headR (f : Fin 512 → EReal) (G : (⟨2, ![512, 512]⟩ : Shape).Idx → EReal) (q : Fin 512) : EReal :=
  f q * Ideal.rsqrt ((∑ l, f l * f l * G (ix2 l q) + ∑ l, (f l * f l - f l * f l) * G (ix2 l q))
    * Ideal.ofBits .f32 0x3C000000#32 + Ideal.ofBits .f32 0x358637BD#32)

/-- The products do not mind which factor comes first. -/
theorem colT_comm {n : Nat} (w : (⟨2, ![n, 1024]⟩ : Shape).Idx → EReal) (h : Fin 1024 → EReal) (c : Fin n) :
    colT w h c = rowDot h fun k => w (ix2 c k) := by
  unfold colT rowDot
  exact Finset.sum_congr rfl fun k _ => mul_comm _ _

theorem headT_eq (f : Fin 512 → EReal) (hf : ∀ l, IsReal (f l)) (G : (⟨2, ![512, 512]⟩ : Shape).Idx → EReal)
    (hG : ∀ q l, G (ix2 q l) = sameGroup64 q l) (g : Fin 64 → EReal) (q : Fin 512) :
    headT f G q * g ⟨q.val % 64, by omega⟩ = head64 f g q := by
  rw [head64_groups f hf]
  unfold headT
  simp only [hG]

theorem headR_eq (f : Fin 512 → EReal) (hf : ∀ l, IsReal (f l)) (G : (⟨2, ![512, 512]⟩ : Shape).Idx → EReal)
    (hG : ∀ l q, G (ix2 l q) = sameGroup l q) (g : Fin 128 → EReal) (q : Fin 512) :
    headR f G q * g ⟨q.val % 128, by omega⟩ = head128 f g q := by
  rw [head128_groups f hf]
  unfold headR
  simp only [hG]

end Cert.ProjIdeal.Body

end
-- ==== Proof.ProjWeights.lean ====
/-
  What the projections read: the slices of the weights, rounded, laid side by side and turned; the gains of the heads; the
  scale of the index weights; and the matrices of groups.
-/
module

public import proofs.«01_k».proof.Proof.ProjSpec
public import proofs.«01_k».proof.Proof.Gen.ProjIdeal.Value

@[expose] public section

set_option maxRecDepth 16384

noncomputable section

open Idealize.ShloMosaic Idealize.ShloMosaic.TcCoe Idealize.SL.Sem
open Idealize.ShloMosaic.Pipeline (Dat)

namespace Cert.ProjIdeal.Value
open Cert.ProjIdeal Cert.ProjIdeal.Gen Cert.Layer

variable (m : (ℓ : Loc nD τ sig) → Buf (Elt Ideal) ℓ)

/-- The gain of the norm. -/
theorem gain_in (c : Dev nD) (l : Fin 1024) : V m c main_v27 (ix2 0 l) = (m ((c : Thread nD τ).loc main_arg1)) (ix2 0 l) := by
  simp only [V, List.flatten_cons, List.flatten_nil, List.append_nil, List.cons_append, List.nil_append]
  after_results_simp
  pointwise

/-- The columns of the queries. -/
theorem wq_in (c : Dev nD) (l : Fin 512) (k : Fin 1024) : V m c main_v60 (ix2 ⟨l.val, by omega⟩ k) = (m ((c : Thread nD τ).loc main_arg2)) (ix3 0 k ⟨l.val, by omega⟩) := by
  simp only [V, List.flatten_cons, List.flatten_nil, List.append_nil, List.cons_append, List.nil_append]
  after_results_simp
  pointwise
  after_results_simp
  pointwise

/-- The columns of the keys. -/
theorem wk_in (c : Dev nD) (l : Fin 512) (k : Fin 1024) : V m c main_v60 (ix2 ⟨512 + l.val, by omega⟩ k) = (m ((c : Thread nD τ).loc main_arg2)) (ix3 0 k ⟨512 + l.val, by omega⟩) := by
  simp only [V, List.flatten_cons, List.flatten_nil, List.append_nil, List.cons_append, List.nil_append]
  after_results_simp
  pointwise
  after_results_simp
  pointwise

/-- The columns of the values. -/
theorem wv_in (c : Dev nD) (l : Fin 512) (k : Fin 1024) : V m c main_v62 (ix2 l k) = (m ((c : Thread nD τ).loc main_arg2)) (ix3 0 k ⟨1024 + l.val, by omega⟩) := by
  simp only [V, List.flatten_cons, List.flatten_nil, List.append_nil, List.cons_append, List.nil_append]
  after_results_simp
  pointwise
  after_results_simp
  pointwise
  rw [dif_neg (by omega), dif_neg (by omega)]
  refine congrArg (fun j => m ((c : Thread nD τ).loc main_arg2) (ix3 0 k j)) (Fin.ext ?_)
  show 1024 + (1024 + l.val - 512 - 512) = 1024 + l.val
  omega

/-- The columns of the index queries. -/
theorem wqi_in (c : Dev nD) (l : Fin 512) (k : Fin 1024) : V m c main_v64 (ix2 l k) = (m ((c : Thread nD τ).loc main_arg2)) (ix3 0 k ⟨1536 + l.val, by omega⟩) := by
  simp only [V, List.flatten_cons, List.flatten_nil, List.append_nil, List.cons_append, List.nil_append]
  after_results_simp
  pointwise

/-- The columns of the index keys. -/
theorem wki_in (c : Dev nD) (l : Fin 64) (k : Fin 1024) : V m c main_v65 (ix2 ⟨l.val, by omega⟩ k) = (m ((c : Thread nD τ).loc main_arg2)) (ix3 0 k ⟨2048 + l.val, by omega⟩) := by
  simp only [V, List.flatten_cons, List.flatten_nil, List.append_nil, List.cons_append, List.nil_append]
  after_results_simp
  pointwise
  after_results_simp
  pointwise

/-- The columns of the index weights. -/
theorem wwi_in (c : Dev nD) (l : Fin 8) (k : Fin 1024) : V m c main_v65 (ix2 ⟨64 + l.val, by omega⟩ k) = (m ((c : Thread nD τ).loc main_arg2)) (ix3 0 k ⟨2112 + l.val, by omega⟩) := by
  simp only [V, List.flatten_cons, List.flatten_nil, List.append_nil, List.cons_append, List.nil_append]
  after_results_simp
  pointwise
  after_results_simp
  pointwise

/-- The columns of the input of the recurrent block. -/
theorem wlx_in (c : Dev nD) (l : Fin 512) (k : Fin 1024) : V m c main_v21 (ix2 k ⟨l.val, by omega⟩) = (m ((c : Thread nD τ).loc main_arg2)) (ix3 0 k ⟨2120 + l.val, by omega⟩) := by
  simp only [V, List.flatten_cons, List.flatten_nil, List.append_nil, List.cons_append, List.nil_append]
  after_results_simp
  pointwise
  after_results_simp
  pointwise

/-- The columns of the gate of the recurrent block. -/
theorem wlg_in (c : Dev nD) (l : Fin 512) (k : Fin 1024) : V m c main_v21 (ix2 k ⟨512 + l.val, by omega⟩) = (m ((c : Thread nD τ).loc main_arg2)) (ix3 0 k ⟨2632 + l.val, by omega⟩) := by
  simp only [V, List.flatten_cons, List.flatten_nil, List.append_nil, List.cons_append, List.nil_append]
  after_results_simp
  pointwise
  after_results_simp
  pointwise

/-- The columns of the queries of the memory attention. -/
theorem wqm_in (c : Dev nD) (l : Fin 512) (k : Fin 1024) : V m c main_v29 (ix2 k l) = (m ((c : Thread nD τ).loc main_arg2)) (ix3 0 k ⟨3144 + l.val, by omega⟩) := by
  simp only [V, List.flatten_cons, List.flatten_nil, List.append_nil, List.cons_append, List.nil_append]
  after_results_simp
  pointwise

end Cert.ProjIdeal.Value

end
-- ==== Proof.ProjGains.lean ====
/-
  What the projections read: the slices of the weights, rounded, laid side by side and turned; the gains of the heads; the
  scale of the index weights; and the matrices of groups.
-/
module

public import proofs.«01_k».proof.Proof.ProjSpec
public import proofs.«01_k».proof.Proof.Gen.ProjIdeal.Value

@[expose] public section

set_option maxRecDepth 16384

noncomputable section

open Idealize.ShloMosaic Idealize.ShloMosaic.TcCoe Idealize.SL.Sem
open Idealize.ShloMosaic.Pipeline (Dat)

namespace Cert.ProjIdeal.Value
open Cert.ProjIdeal Cert.ProjIdeal.Gen Cert.Layer

variable (m : (ℓ : Loc nD τ sig) → Buf (Elt Ideal) ℓ)

/-- The gain of the queries, one for every head. -/
theorem qg_in (c : Dev nD) (q t : Fin 512) : V m c main_v75 (ix2 q t) = (m ((c : Thread nD τ).loc main_arg3)) (ix2 0 ⟨q.val % 64, by omega⟩) := by
  simp only [V, List.flatten_cons, List.flatten_nil, List.append_nil, List.cons_append, List.nil_append]
  after_results_simp
  pointwise

/-- The gain of the keys, one for every head. -/
theorem kg_in (c : Dev nD) (q t : Fin 512) : V m c main_v76 (ix2 q t) = (m ((c : Thread nD τ).loc main_arg4)) (ix2 0 ⟨q.val % 64, by omega⟩) := by
  simp only [V, List.flatten_cons, List.flatten_nil, List.append_nil, List.cons_append, List.nil_append]
  after_results_simp
  pointwise

/-- The gain of the queries of the memory attention. -/
theorem mg_in (c : Dev nD) (q : Fin 512) : V m c main_v41 (ix2 0 q) = (m ((c : Thread nD τ).loc main_arg5)) (ix2 0 ⟨q.val % 128, by omega⟩) := by
  simp only [V, List.flatten_cons, List.flatten_nil, List.append_nil, List.cons_append, List.nil_append]
  after_results_simp
  pointwise

/-- The index keys are not scaled. -/
theorem ks_in (c : Dev nD) (q : Fin 64) (t : Fin 512) : V m c main_v77 (ix2 ⟨q.val, by omega⟩ t) = Ideal.ofBits .f32 0x3F800000#32 := by
  simp only [V, List.flatten_cons, List.flatten_nil, List.append_nil, List.cons_append, List.nil_append]
  after_results_simp
  pointwise
  after_results_simp
  pointwise

/-- The index weights are scaled. -/
theorem ws_in (c : Dev nD) (q : Fin 8) (t : Fin 512) : V m c main_v77 (ix2 ⟨64 + q.val, by omega⟩ t) = Ideal.ofBits .f32 0x3D3504F3#32 := by
  simp only [V, List.flatten_cons, List.flatten_nil, List.append_nil, List.cons_append, List.nil_append]
  after_results_simp
  pointwise
  after_results_simp
  pointwise

/-- The host's number of the group a column lies in: the quotient by the group's width, corrected where the signs differ. -/
def groupIndex (n : BitVec 32) : IVec S512 32 :=
  select (andi (cmpi .ne (signi (iotaInDim S512 32 0)) (broadcastInDim S512 ![] bcast_S_S512 (signi (constantI S_ 32 n))))
      (cmpi .ne (Host.remsi (iotaInDim S512 32 0) (broadcastInDim S512 ![] bcast_S_S512 (constantI S_ 32 n)))
        (broadcastInDim S512 ![] bcast_S_S512 (constantI S_ 32 0#32))))
    (subi (Host.divsi (iotaInDim S512 32 0) (broadcastInDim S512 ![] bcast_S_S512 (constantI S_ 32 n)))
      (broadcastInDim S512 ![] bcast_S_S512 (constantI S_ 32 1#32)))
    (Host.divsi (iotaInDim S512 32 0) (broadcastInDim S512 ![] bcast_S_S512 (constantI S_ 32 n)))

/-- The matrix the host lays out, from the numbers of the groups. -/
def groupMatrix (n : BitVec 32) : FVec Ideal S512x512 .bf16 := uitofp (F := Ideal) .bf16 (cmpi .eq
    (broadcastInDim S512x512 ![0, 1] bcast_S512x1_S512x512_0_1 (broadcastInDim S512x1 ![0] bcast_S512_S512x1_0 (groupIndex n)))
    (broadcastInDim S512x512 ![0, 1] bcast_S1x512_S512x512_0_1 (broadcastInDim S1x512 ![1] bcast_S512_S1x512_1 (groupIndex n))))

theorem group_eq : ∀ a b : Fin 8, (BitVec.ofNat 32 a.val = BitVec.ofNat 32 b.val) ↔ a.val = b.val := by
  decide +kernel

/-- The correction never applies: the number is the quotient. -/
theorem groupIndex_64 : ∀ l : Fin 512, groupIndex 64#32 (ix1 l) = BitVec.ofNat 32 (l.val / 64) := by
  decide +kernel

theorem groupIndex_128 : ∀ l : Fin 512, groupIndex 128#32 (ix1 l) = BitVec.ofNat 32 (l.val / 128) := by
  decide +kernel

theorem groups64_eq (c : Dev nD) : V m c main_v49 = groupMatrix 64#32 := by
  simp only [V, List.flatten_cons, List.flatten_nil, List.append_nil, List.cons_append, List.nil_append]
  after_results_simp
  rfl

/-- The matrix of groups of 64. -/
theorem groups64_in (c : Dev nD) (l q : Fin 512) : V m c main_v49 (ix2 l q) = sameGroup64 l q := by
  rw [groups64_eq]
  have h0 : groupIndex 64#32 (ix1 l) = BitVec.ofNat 32 (l.val / 64) := groupIndex_64 l
  have h1 : groupIndex 64#32 (ix1 q) = BitVec.ofNat 32 (q.val / 64) := groupIndex_64 q
  have h2 := group_eq ⟨l.val / 64, by omega⟩ ⟨q.val / 64, by omega⟩
  unfold groupMatrix
  generalize groupIndex 64#32 = G at h0 h1
  pointwise
  rw [h0, h1]
  unfold sameGroup64
  by_cases h : l.val / 64 = q.val / 64
  · rw [if_pos h, h]
    simp [IntOp.cmpi, FloatOps.uitofp]
  · rw [if_neg h]
    have hne : (BitVec.ofNat 32 (l.val / 64) == BitVec.ofNat 32 (q.val / 64)) = false := beq_eq_false_iff_ne.mpr fun e => h (h2.mp e)
    simp [IntOp.cmpi, FloatOps.uitofp, hne]

theorem groups128_eq (c : Dev nD) : V m c main_v57 = groupMatrix 128#32 := by
  simp only [V, List.flatten_cons, List.flatten_nil, List.append_nil, List.cons_append, List.nil_append]
  after_results_simp
  rfl

/-- The matrix of groups of 128. -/
theorem groups128_in (c : Dev nD) (l q : Fin 512) : V m c main_v57 (ix2 l q) = sameGroup l q := by
  rw [groups128_eq]
  have h0 : groupIndex 128#32 (ix1 l) = BitVec.ofNat 32 (l.val / 128) := groupIndex_128 l
  have h1 : groupIndex 128#32 (ix1 q) = BitVec.ofNat 32 (q.val / 128) := groupIndex_128 q
  have h2 := group_eq ⟨l.val / 128, by omega⟩ ⟨q.val / 128, by omega⟩
  unfold groupMatrix
  generalize groupIndex 128#32 = G at h0 h1
  pointwise
  rw [h0, h1]
  unfold sameGroup
  by_cases h : l.val / 128 = q.val / 128
  · rw [if_pos h, h]
    simp [IntOp.cmpi, FloatOps.uitofp]
  · rw [if_neg h]
    have hne : (BitVec.ofNat 32 (l.val / 128) == BitVec.ofNat 32 (q.val / 128)) = false := beq_eq_false_iff_ne.mpr fun e => h (h2.mp e)
    simp [IntOp.cmpi, FloatOps.uitofp, hne]

end Cert.ProjIdeal.Value

end
-- ==== Proof.ProjRows.lean ====
/-
  The products of a grid point's tokens with the columns of the weights, as columns of the projection of the whole batch.
-/
module

public import proofs.«01_k».proof.Proof.ProjTok
public import proofs.«01_k».proof.Proof.ProjWeights
public import proofs.«01_k».proof.Proof.ProjGains

@[expose] public section

set_option maxRecDepth 16384

noncomputable section

open Idealize.ShloMosaic Idealize.ShloMosaic.TcCoe Idealize.SL.Sem
open Idealize.ShloMosaic.Pipeline (Dat)

namespace Cert.ProjIdeal.Value
open Cert.ProjIdeal Cert.ProjIdeal.Gen Cert.Layer Cert.ProjIdeal.Body

variable (m : (ℓ : Loc nD τ sig) → Buf (Elt Ideal) ℓ)

/-- Where each window's block sits at a grid point. -/
theorem idx : ∀ t : Fin cfg0.N, win0_0.index t = ![t.val / 16, t.val % 16, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![t.val / 16, 0, t.val % 16]
    ∧ win0_15.index t = ![t.val / 16, 0, t.val % 16]
    ∧ win0_16.index t = ![t.val / 16, 0, t.val % 16]
    ∧ win0_17.index t = ![t.val / 16, 0, t.val % 16]
    ∧ win0_18.index t = ![t.val / 16, 0, t.val % 16]
    ∧ win0_19.index t = ![t.val / 16, 0, t.val % 16]
    ∧ win0_20.index t = ![t.val / 16, t.val % 16, 0]
    ∧ win0_21.index t = ![t.val / 16, t.val % 16, 0]
    ∧ win0_23.index t = ![t.val / 16, t.val % 16, 0]
    ∧ win0_24.index t = ![t.val / 16, t.val % 16, 0]
    ∧ win0_25.index t = ![t.val / 16, t.val % 16, 0]
    ∧ t.val < 64 :=
  (by decide +kernel : ∀ t : Fin grid0.N, _)

theorem idx_lt (t : Fin cfg0.N) : t.val < 64 := (idx t).2.2.2.2.2.2.2.2.2.2.2.2.2.2.2.2.2.2.2.2.2.2.2.2.2

/-- The normalised token of a block is the one of the batch. -/
theorem tok_in (c : Dev nD) (t : Fin cfg0.N) (r : Fin 512) (h : t.val / 16 < 4) (h' : t.val % 16 * 512 + r.val < 8192) :
    (tok (iblk m c 0 t) (iblk m c 1 t) r) = rmsRow (fun l => (m ((c : Thread nD τ).loc main_arg0)) (ix3 ⟨t.val / 16, h⟩ ⟨t.val % 16 * 512 + r.val, h'⟩ l)) fun l => (m ((c : Thread nD τ).loc main_arg1)) (ix2 0 l) := by
  have b0 : ∀ l : Fin 1024, iblk m c 0 t (ix3 0 r l) = (m ((c : Thread nD τ).loc main_arg0)) (ix3 ⟨t.val / 16, h⟩ ⟨t.val % 16 * 512 + r.val, h'⟩ l) := fun l => by
    refine Eq.trans ?_ (congrFun (V_main_arg0 m c) (ix3 ⟨t.val / 16, h⟩ ⟨t.val % 16 * 512 + r.val, h'⟩ l)); blk_ext [iblk, idx t]
  have b1 : ∀ l : Fin 1024, iblk m c 1 t (ix2 0 l) = (m ((c : Thread nD τ).loc main_arg1)) (ix2 0 l) := fun l => by
    refine Eq.trans ?_ (gain_in m c l); blk_ext [iblk, idx t]
  unfold tok
  simp only [b0, b1]

/-- A column of the queries. -/
theorem q_col (c : Dev nD) (t : Fin cfg0.N) (r : Fin 512) (l : Fin 512) (h : t.val / 16 < 4) (h' : t.val % 16 * 512 + r.val < 8192) :
    colT (iblk m c 2 t) (tok (iblk m c 0 t) (iblk m c 1 t) r) ⟨l.val, by omega⟩ = projAt (m ((c : Thread nD τ).loc main_arg0)) (m ((c : Thread nD τ).loc main_arg1)) (m ((c : Thread nD τ).loc main_arg2)) ⟨t.val / 16, h⟩ ⟨t.val % 16 * 512 + r.val, h'⟩ ⟨l.val, by omega⟩ := by
  have b : ∀ k : Fin 1024, iblk m c 2 t (ix2 ⟨l.val, by omega⟩ k) = (m ((c : Thread nD τ).loc main_arg2)) (ix3 0 k ⟨l.val, by omega⟩) := fun k => by
    refine Eq.trans ?_ (wq_in m c l k); blk_ext [iblk, idx t]
  rw [colT_comm]
  unfold projAt
  rw [tok_in m c t r h h']
  simp only [b]

/-- A column of the keys. -/
theorem k_col (c : Dev nD) (t : Fin cfg0.N) (r : Fin 512) (l : Fin 512) (h : t.val / 16 < 4) (h' : t.val % 16 * 512 + r.val < 8192) :
    colT (iblk m c 2 t) (tok (iblk m c 0 t) (iblk m c 1 t) r) ⟨512 + l.val, by omega⟩ = projAt (m ((c : Thread nD τ).loc main_arg0)) (m ((c : Thread nD τ).loc main_arg1)) (m ((c : Thread nD τ).loc main_arg2)) ⟨t.val / 16, h⟩ ⟨t.val % 16 * 512 + r.val, h'⟩ ⟨512 + l.val, by omega⟩ := by
  have b : ∀ k : Fin 1024, iblk m c 2 t (ix2 ⟨512 + l.val, by omega⟩ k) = (m ((c : Thread nD τ).loc main_arg2)) (ix3 0 k ⟨512 + l.val, by omega⟩) := fun k => by
    refine Eq.trans ?_ (wk_in m c l k); blk_ext [iblk, idx t]
  rw [colT_comm]
  unfold projAt
  rw [tok_in m c t r h h']
  simp only [b]

/-- A column of the values. -/
theorem v_col (c : Dev nD) (t : Fin cfg0.N) (r : Fin 512) (l : Fin 512) (h : t.val / 16 < 4) (h' : t.val % 16 * 512 + r.val < 8192) :
    colT (iblk m c 3 t) (tok (iblk m c 0 t) (iblk m c 1 t) r) l = projAt (m ((c : Thread nD τ).loc main_arg0)) (m ((c : Thread nD τ).loc main_arg1)) (m ((c : Thread nD τ).loc main_arg2)) ⟨t.val / 16, h⟩ ⟨t.val % 16 * 512 + r.val, h'⟩ ⟨1024 + l.val, by omega⟩ := by
  have b : ∀ k : Fin 1024, iblk m c 3 t (ix2 l k) = (m ((c : Thread nD τ).loc main_arg2)) (ix3 0 k ⟨1024 + l.val, by omega⟩) := fun k => by
    refine Eq.trans ?_ (wv_in m c l k); blk_ext [iblk, idx t]
  rw [colT_comm]
  unfold projAt
  rw [tok_in m c t r h h']
  simp only [b]

/-- A column of the index queries. -/
theorem qi_col (c : Dev nD) (t : Fin cfg0.N) (r : Fin 512) (l : Fin 512) (h : t.val / 16 < 4) (h' : t.val % 16 * 512 + r.val < 8192) :
    colT (iblk m c 4 t) (tok (iblk m c 0 t) (iblk m c 1 t) r) l = projAt (m ((c : Thread nD τ).loc main_arg0)) (m ((c : Thread nD τ).loc main_arg1)) (m ((c : Thread nD τ).loc main_arg2)) ⟨t.val / 16, h⟩ ⟨t.val % 16 * 512 + r.val, h'⟩ ⟨1536 + l.val, by omega⟩ := by
  have b : ∀ k : Fin 1024, iblk m c 4 t (ix2 l k) = (m ((c : Thread nD τ).loc main_arg2)) (ix3 0 k ⟨1536 + l.val, by omega⟩) := fun k => by
    refine Eq.trans ?_ (wqi_in m c l k); blk_ext [iblk, idx t]
  rw [colT_comm]
  unfold projAt
  rw [tok_in m c t r h h']
  simp only [b]

/-- A column of the index keys. -/
theorem ki_col (c : Dev nD) (t : Fin cfg0.N) (r : Fin 512) (l : Fin 64) (h : t.val / 16 < 4) (h' : t.val % 16 * 512 + r.val < 8192) :
    colT (iblk m c 5 t) (tok (iblk m c 0 t) (iblk m c 1 t) r) ⟨l.val, by omega⟩ = projAt (m ((c : Thread nD τ).loc main_arg0)) (m ((c : Thread nD τ).loc main_arg1)) (m ((c : Thread nD τ).loc main_arg2)) ⟨t.val / 16, h⟩ ⟨t.val % 16 * 512 + r.val, h'⟩ ⟨2048 + l.val, by omega⟩ := by
  have b : ∀ k : Fin 1024, iblk m c 5 t (ix2 ⟨l.val, by omega⟩ k) = (m ((c : Thread nD τ).loc main_arg2)) (ix3 0 k ⟨2048 + l.val, by omega⟩) := fun k => by
    refine Eq.trans ?_ (wki_in m c l k); blk_ext [iblk, idx t]
  rw [colT_comm]
  unfold projAt
  rw [tok_in m c t r h h']
  simp only [b]

/-- A column of the index weights. -/
theorem wi_col (c : Dev nD) (t : Fin cfg0.N) (r : Fin 512) (l : Fin 8) (h : t.val / 16 < 4) (h' : t.val % 16 * 512 + r.val < 8192) :
    colT (iblk m c 5 t) (tok (iblk m c 0 t) (iblk m c 1 t) r) ⟨64 + l.val, by omega⟩ = projAt (m ((c : Thread nD τ).loc main_arg0)) (m ((c : Thread nD τ).loc main_arg1)) (m ((c : Thread nD τ).loc main_arg2)) ⟨t.val / 16, h⟩ ⟨t.val % 16 * 512 + r.val, h'⟩ ⟨2112 + l.val, by omega⟩ := by
  have b : ∀ k : Fin 1024, iblk m c 5 t (ix2 ⟨64 + l.val, by omega⟩ k) = (m ((c : Thread nD τ).loc main_arg2)) (ix3 0 k ⟨2112 + l.val, by omega⟩) := fun k => by
    refine Eq.trans ?_ (wwi_in m c l k); blk_ext [iblk, idx t]
  rw [colT_comm]
  unfold projAt
  rw [tok_in m c t r h h']
  simp only [b]

/-- A column of the recurrent input. -/
theorem lx_col (c : Dev nD) (t : Fin cfg0.N) (r : Fin 512) (l : Fin 512) (h : t.val / 16 < 4) (h' : t.val % 16 * 512 + r.val < 8192) :
    col (iblk m c 6 t) (tok (iblk m c 0 t) (iblk m c 1 t) r) ⟨l.val, by omega⟩ = projAt (m ((c : Thread nD τ).loc main_arg0)) (m ((c : Thread nD τ).loc main_arg1)) (m ((c : Thread nD τ).loc main_arg2)) ⟨t.val / 16, h⟩ ⟨t.val % 16 * 512 + r.val, h'⟩ ⟨2120 + l.val, by omega⟩ := by
  have b : ∀ k : Fin 1024, iblk m c 6 t (ix2 k ⟨l.val, by omega⟩) = (m ((c : Thread nD τ).loc main_arg2)) (ix3 0 k ⟨2120 + l.val, by omega⟩) := fun k => by
    refine Eq.trans ?_ (wlx_in m c l k); blk_ext [iblk, idx t]
  unfold col
  unfold projAt
  rw [tok_in m c t r h h']
  simp only [b]

/-- A column of the recurrent gate. -/
theorem lg_col (c : Dev nD) (t : Fin cfg0.N) (r : Fin 512) (l : Fin 512) (h : t.val / 16 < 4) (h' : t.val % 16 * 512 + r.val < 8192) :
    col (iblk m c 6 t) (tok (iblk m c 0 t) (iblk m c 1 t) r) ⟨512 + l.val, by omega⟩ = projAt (m ((c : Thread nD τ).loc main_arg0)) (m ((c : Thread nD τ).loc main_arg1)) (m ((c : Thread nD τ).loc main_arg2)) ⟨t.val / 16, h⟩ ⟨t.val % 16 * 512 + r.val, h'⟩ ⟨2632 + l.val, by omega⟩ := by
  have b : ∀ k : Fin 1024, iblk m c 6 t (ix2 k ⟨512 + l.val, by omega⟩) = (m ((c : Thread nD τ).loc main_arg2)) (ix3 0 k ⟨2632 + l.val, by omega⟩) := fun k => by
    refine Eq.trans ?_ (wlg_in m c l k); blk_ext [iblk, idx t]
  unfold col
  unfold projAt
  rw [tok_in m c t r h h']
  simp only [b]

/-- A column of the memory queries. -/
theorem qm_col (c : Dev nD) (t : Fin cfg0.N) (r : Fin 512) (l : Fin 512) (h : t.val / 16 < 4) (h' : t.val % 16 * 512 + r.val < 8192) :
    col (iblk m c 7 t) (tok (iblk m c 0 t) (iblk m c 1 t) r) l = projAt (m ((c : Thread nD τ).loc main_arg0)) (m ((c : Thread nD τ).loc main_arg1)) (m ((c : Thread nD τ).loc main_arg2)) ⟨t.val / 16, h⟩ ⟨t.val % 16 * 512 + r.val, h'⟩ ⟨3144 + l.val, by omega⟩ := by
  have b : ∀ k : Fin 1024, iblk m c 7 t (ix2 k l) = (m ((c : Thread nD τ).loc main_arg2)) (ix3 0 k ⟨3144 + l.val, by omega⟩) := fun k => by
    refine Eq.trans ?_ (wqm_in m c l k); blk_ext [iblk, idx t]
  unfold col
  unfold projAt
  rw [tok_in m c t r h h']
  simp only [b]

end Cert.ProjIdeal.Value

end
-- ==== Proof.ProjKeyBody.lean ====
/-
  What one grid point of the projections stores of the keys.
-/
module

public import proofs.«01_k».proof.Proof.ProjTok
public import proofs.«01_k».proof.Proof.Gen.ProjIdeal.Frame

@[expose] public section

set_option maxRecDepth 16384

noncomputable section

open Idealize.ShloMosaic Idealize.ShloMosaic.TcCoe Idealize.SL.Sem

namespace Cert.ProjIdeal.Body
open Cert.ProjIdeal Cert.ProjIdeal.Gen Cert.Layer

/-- The block of keys at a token and a column. -/
theorem key_out (x0 : FVec Ideal S1x512x1024 .f32) (x1 : FVec Ideal S1x1024 .f32) (x2 : FVec Ideal S1024x1024 .bf16) (x3 : FVec Ideal S512x1024 .bf16)
    (x4 : FVec Ideal S512x1024 .bf16) (x5 : FVec Ideal S128x1024 .bf16) (x6 : FVec Ideal S1024x1024 .bf16) (x7 : FVec Ideal S1024x512 .bf16)
    (x8 : FVec Ideal S512x512 .f32) (x9 : FVec Ideal S512x512 .f32) (x10 : FVec Ideal S1x512 .f32) (x11 : FVec Ideal S128x512 .f32)
    (x12 : FVec Ideal S512x512 .bf16) (x13 : FVec Ideal S512x512 .bf16) (q : Fin 512) (t : Fin 512) :
    out0_14 (F := Ideal) x0 x1 x2 x3 x4 x5 x6 x7 x8 x9 x10 x11 x12 x13 (ix3 0 q t) = headT (fun l => colT x2 (tok x0 x1 t) ⟨512 + l.val, by omega⟩) x12 q * x9 (ix2 q t) := by
  unfold out0_14
  frame_out
  pointwise [k0_pay2, k0_pay3, k0_pay6, k0_pay7, k0_pay31, headT, headR, colT, col, rowDot, tok, rmsRow]

/-- The block of keys, a token a row at a token and a column. -/
theorem keyRow_out (x0 : FVec Ideal S1x512x1024 .f32) (x1 : FVec Ideal S1x1024 .f32) (x2 : FVec Ideal S1024x1024 .bf16) (x3 : FVec Ideal S512x1024 .bf16)
    (x4 : FVec Ideal S512x1024 .bf16) (x5 : FVec Ideal S128x1024 .bf16) (x6 : FVec Ideal S1024x1024 .bf16) (x7 : FVec Ideal S1024x512 .bf16)
    (x8 : FVec Ideal S512x512 .f32) (x9 : FVec Ideal S512x512 .f32) (x10 : FVec Ideal S1x512 .f32) (x11 : FVec Ideal S128x512 .f32)
    (x12 : FVec Ideal S512x512 .bf16) (x13 : FVec Ideal S512x512 .bf16) (q : Fin 512) (t : Fin 512) :
    out0_20 (F := Ideal) x0 x1 x2 x3 x4 x5 x6 x7 x8 x9 x10 x11 x12 x13 (ix3 0 t q) = headT (fun l => colT x2 (tok x0 x1 t) ⟨512 + l.val, by omega⟩) x12 q * x9 (ix2 q t) := by
  unfold out0_20
  frame_out
  pointwise [k0_pay2, k0_pay3, k0_pay6, k0_pay8, k0_pay31, headT, headR, colT, col, rowDot, tok, rmsRow]

end Cert.ProjIdeal.Body

end
-- ==== Proof.ProjKeyValue.lean ====
/-
  The arrays of keys the projections return.
-/
module

public import proofs.«01_k».proof.Proof.ProjRows
public import proofs.«01_k».proof.Proof.ProjKeyBody

@[expose] public section

set_option maxRecDepth 16384

noncomputable section

open Idealize.ShloMosaic Idealize.ShloMosaic.TcCoe Idealize.SL.Sem
open Idealize.ShloMosaic.Pipeline (Dat)

namespace Cert.ProjIdeal.Value
open Cert.ProjIdeal Cert.ProjIdeal.Gen Cert.Layer Cert.ProjIdeal.Body

variable (m : (ℓ : Loc nD τ sig) → Buf (Elt Ideal) ℓ)

/-- The array of keys. -/
def keys (x : FVec Ideal S4x8192x1024 .f32) (g : FVec Ideal S1x1024 .f32) (w : FVec Ideal S1x1024x6728 .f32) (kg : FVec Ideal S1x64 .f32) : FVec Ideal S4x512x8192 .f32 :=
  fun i => keyAt x g w kg (i 0) (i 2) (i 1)

set_option maxHeartbeats 4000000 in
/-- What a grid point stores of the keys. -/
theorem key_point (c : Dev nD) (hg : ∀ l : Fin 1024, IsReal ((m ((c : Thread nD τ).loc main_arg1)) (ix2 0 l)))
    (hw : ∀ (k : Fin 1024) (q : Fin 6728), IsReal ((m ((c : Thread nD τ).loc main_arg2)) (ix3 0 k q))) (t : Fin cfg0.N) (r : Fin 512) (q : Fin 512) (h : t.val / 16 < 4) (h' : t.val % 16 * 512 + r.val < 8192) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 0 q r)
    = keyAt (m ((c : Thread nD τ).loc main_arg0)) (m ((c : Thread nD τ).loc main_arg1)) (m ((c : Thread nD τ).loc main_arg2)) (m ((c : Thread nD τ).loc main_arg4)) ⟨t.val / 16, h⟩ ⟨t.val % 16 * 512 + r.val, h'⟩ q := by
  refine (key_out (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) q r).trans ?_
  have hG : ∀ q l : Fin 512, iblk m c 12 t (ix2 q l) = sameGroup64 q l := fun q l => by
    refine Eq.trans ?_ (groups64_in m c q l); blk_ext [iblk, idx t]
  have b : iblk m c 9 t (ix2 q r) = (m ((c : Thread nD τ).loc main_arg4)) (ix2 0 ⟨q.val % 64, by omega⟩) := by
    refine Eq.trans ?_ (kg_in m c q r); blk_ext [iblk, idx t]
  have hf : (fun l : Fin 512 => colT (iblk m c 2 t) (tok (iblk m c 0 t) (iblk m c 1 t) r) ⟨512 + l.val, by omega⟩)
      = fun l => projAt (m ((c : Thread nD τ).loc main_arg0)) (m ((c : Thread nD τ).loc main_arg1)) (m ((c : Thread nD τ).loc main_arg2)) ⟨t.val / 16, h⟩ ⟨t.val % 16 * 512 + r.val, h'⟩ ⟨512 + l.val, by omega⟩ := funext fun l => k_col m c t r l h h'
  rw [hf, b]
  unfold keyAt
  rw [← headT_eq _ (fun l => projAt_real _ _ _ hg hw _ _ ⟨512 + l.val, by omega⟩) (iblk m c 12 t) hG]

/-- The same at an index of the block, against the array. -/
theorem key_point_idx (c : Dev nD) (hg : ∀ l : Fin 1024, IsReal ((m ((c : Thread nD τ).loc main_arg1)) (ix2 0 l)))
    (hw : ∀ (k : Fin 1024) (q : Fin 6728), IsReal ((m ((c : Thread nD τ).loc main_arg2)) (ix3 0 k q))) (t : Fin cfg0.N) (y : S1x512x512.Idx) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y
    = keys (m ((c : Thread nD τ).loc main_arg0)) (m ((c : Thread nD τ).loc main_arg1)) (m ((c : Thread nD τ).loc main_arg2)) (m ((c : Thread nD τ).loc main_arg4)) (((cfg0.win 14).blk t).view.emb y) := by
  have ht := idx_lt t
  idx_vars y
  obtain rfl : y0 = 0 := Subsingleton.elim _ _
  refine (key_point m c hg hw t y2 y1 (by omega) (by omega)).trans ?_
  unfold keys
  refine congr (congrArg₂ (keyAt _ _ _ _) (Fin.ext ?_) (Fin.ext ?_)) (Fin.ext ?_) <;> blk_simp [idx t] <;> first | omega | rfl

/-- The array of keys after the run. -/
theorem key_final (c : Dev nD) (hg : ∀ l : Fin 1024, IsReal ((m ((c : Thread nD τ).loc main_arg1)) (ix2 0 l)))
    (hw : ∀ (k : Fin 1024) (q : Fin 6728), IsReal ((m ((c : Thread nD τ).loc main_arg2)) (ix3 0 k q))) : (dats m 0 c).arrAt 14 (cfgs 0).N = keys (m ((c : Thread nD τ).loc main_arg0)) (m ((c : Thread nD τ).loc main_arg1)) (m ((c : Thread nD τ).loc main_arg2)) (m ((c : Thread nD τ).loc main_arg4)) := by
  refine (dats m 0 c).arrAt_eq_of_covers 14 _ (by decide +kernel) fun t _ y => ?_
  blk_simp
  rw [after0_14]
  exact key_point_idx m c hg hw t y

/-- The array of keys, a token a row. -/
def keyRows (x : FVec Ideal S4x8192x1024 .f32) (g : FVec Ideal S1x1024 .f32) (w : FVec Ideal S1x1024x6728 .f32) (kg : FVec Ideal S1x64 .f32) : FVec Ideal S4x8192x512 .bf16 :=
  fun i => keyAt x g w kg (i 0) (i 1) (i 2)

set_option maxHeartbeats 4000000 in
/-- What a grid point stores of the keys, a token a row. -/
theorem keyRow_point (c : Dev nD) (hg : ∀ l : Fin 1024, IsReal ((m ((c : Thread nD τ).loc main_arg1)) (ix2 0 l)))
    (hw : ∀ (k : Fin 1024) (q : Fin 6728), IsReal ((m ((c : Thread nD τ).loc main_arg2)) (ix3 0 k q))) (t : Fin cfg0.N) (r : Fin 512) (q : Fin 512) (h : t.val / 16 < 4) (h' : t.val % 16 * 512 + r.val < 8192) :
    out0_20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 0 r q)
    = keyAt (m ((c : Thread nD τ).loc main_arg0)) (m ((c : Thread nD τ).loc main_arg1)) (m ((c : Thread nD τ).loc main_arg2)) (m ((c : Thread nD τ).loc main_arg4)) ⟨t.val / 16, h⟩ ⟨t.val % 16 * 512 + r.val, h'⟩ q := by
  refine (keyRow_out (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) q r).trans ?_
  have hG : ∀ q l : Fin 512, iblk m c 12 t (ix2 q l) = sameGroup64 q l := fun q l => by
    refine Eq.trans ?_ (groups64_in m c q l); blk_ext [iblk, idx t]
  have b : iblk m c 9 t (ix2 q r) = (m ((c : Thread nD τ).loc main_arg4)) (ix2 0 ⟨q.val % 64, by omega⟩) := by
    refine Eq.trans ?_ (kg_in m c q r); blk_ext [iblk, idx t]
  have hf : (fun l : Fin 512 => colT (iblk m c 2 t) (tok (iblk m c 0 t) (iblk m c 1 t) r) ⟨512 + l.val, by omega⟩)
      = fun l => projAt (m ((c : Thread nD τ).loc main_arg0)) (m ((c : Thread nD τ).loc main_arg1)) (m ((c : Thread nD τ).loc main_arg2)) ⟨t.val / 16, h⟩ ⟨t.val % 16 * 512 + r.val, h'⟩ ⟨512 + l.val, by omega⟩ := funext fun l => k_col m c t r l h h'
  rw [hf, b]
  unfold keyAt
  rw [← headT_eq _ (fun l => projAt_real _ _ _ hg hw _ _ ⟨512 + l.val, by omega⟩) (iblk m c 12 t) hG]

/-- The same at an index of the block, against the array. -/
theorem keyRow_point_idx (c : Dev nD) (hg : ∀ l : Fin 1024, IsReal ((m ((c : Thread nD τ).loc main_arg1)) (ix2 0 l)))
    (hw : ∀ (k : Fin 1024) (q : Fin 6728), IsReal ((m ((c : Thread nD τ).loc main_arg2)) (ix3 0 k q))) (t : Fin cfg0.N) (y : S1x512x512.Idx) :
    out0_20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y
    = keyRows (m ((c : Thread nD τ).loc main_arg0)) (m ((c : Thread nD τ).loc main_arg1)) (m ((c : Thread nD τ).loc main_arg2)) (m ((c : Thread nD τ).loc main_arg4)) (((cfg0.win 20).blk t).view.emb y) := by
  have ht := idx_lt t
  idx_vars y
  obtain rfl : y0 = 0 := Subsingleton.elim _ _
  refine (keyRow_point m c hg hw t y1 y2 (by omega) (by omega)).trans ?_
  unfold keyRows
  refine congr (congrArg₂ (keyAt _ _ _ _) (Fin.ext ?_) (Fin.ext ?_)) (Fin.ext ?_) <;> blk_simp [idx t] <;> first | omega | rfl

/-- The array of keys, a token a row after the run. -/
theorem keyRow_final (c : Dev nD) (hg : ∀ l : Fin 1024, IsReal ((m ((c : Thread nD τ).loc main_arg1)) (ix2 0 l)))
    (hw : ∀ (k : Fin 1024) (q : Fin 6728), IsReal ((m ((c : Thread nD τ).loc main_arg2)) (ix3 0 k q))) : (dats m 0 c).arrAt 20 (cfgs 0).N = keyRows (m ((c : Thread nD τ).loc main_arg0)) (m ((c : Thread nD τ).loc main_arg1)) (m ((c : Thread nD τ).loc main_arg2)) (m ((c : Thread nD τ).loc main_arg4)) := by
  refine (dats m 0 c).arrAt_eq_of_covers 20 _ (by decide +kernel) fun t _ y => ?_
  blk_simp
  rw [after0_20]
  exact keyRow_point_idx m c hg hw t y

end Cert.ProjIdeal.Value

end
-- ==== Proof.ProjQueryBody.lean ====
/-
  What one grid point of the projections stores of the queries.
-/
module

public import proofs.«01_k».proof.Proof.ProjTok
public import proofs.«01_k».proof.Proof.Gen.ProjIdeal.Frame

@[expose] public section

set_option maxRecDepth 16384

noncomputable section

open Idealize.ShloMosaic Idealize.ShloMosaic.TcCoe Idealize.SL.Sem

namespace Cert.ProjIdeal.Body
open Cert.ProjIdeal Cert.ProjIdeal.Gen Cert.Layer

/-- The block of queries at a token and a column. -/
theorem query_out (x0 : FVec Ideal S1x512x1024 .f32) (x1 : FVec Ideal S1x1024 .f32) (x2 : FVec Ideal S1024x1024 .bf16) (x3 : FVec Ideal S512x1024 .bf16)
    (x4 : FVec Ideal S512x1024 .bf16) (x5 : FVec Ideal S128x1024 .bf16) (x6 : FVec Ideal S1024x1024 .bf16) (x7 : FVec Ideal S1024x512 .bf16)
    (x8 : FVec Ideal S512x512 .f32) (x9 : FVec Ideal S512x512 .f32) (x10 : FVec Ideal S1x512 .f32) (x11 : FVec Ideal S128x512 .f32)
    (x12 : FVec Ideal S512x512 .bf16) (x13 : FVec Ideal S512x512 .bf16) (q : Fin 512) (t : Fin 512) :
    out0_18 (F := Ideal) x0 x1 x2 x3 x4 x5 x6 x7 x8 x9 x10 x11 x12 x13 (ix3 0 q t) = headT (fun l => colT x2 (tok x0 x1 t) ⟨l.val, by omega⟩) x12 q * x8 (ix2 q t) * Ideal.ofBits .f32 0x3E38AA3B#32 := by
  unfold out0_18
  frame_out
  pointwise [k0_pay2, k0_pay3, k0_pay4, k0_pay5, k0_pay9, headT, headR, colT, col, rowDot, tok, rmsRow]

/-- The block of queries of the memory attention at a token and a column. -/
theorem memQuery_out (x0 : FVec Ideal S1x512x1024 .f32) (x1 : FVec Ideal S1x1024 .f32) (x2 : FVec Ideal S1024x1024 .bf16) (x3 : FVec Ideal S512x1024 .bf16)
    (x4 : FVec Ideal S512x1024 .bf16) (x5 : FVec Ideal S128x1024 .bf16) (x6 : FVec Ideal S1024x1024 .bf16) (x7 : FVec Ideal S1024x512 .bf16)
    (x8 : FVec Ideal S512x512 .f32) (x9 : FVec Ideal S512x512 .f32) (x10 : FVec Ideal S1x512 .f32) (x11 : FVec Ideal S128x512 .f32)
    (x12 : FVec Ideal S512x512 .bf16) (x13 : FVec Ideal S512x512 .bf16) (q : Fin 512) (t : Fin 512) :
    out0_25 (F := Ideal) x0 x1 x2 x3 x4 x5 x6 x7 x8 x9 x10 x11 x12 x13 (ix3 0 t q) = headR (fun l => col x7 (tok x0 x1 t) l) x13 q * x10 (ix2 0 q) := by
  unfold out0_25
  frame_out
  pointwise [k0_pay1, k0_pay2, k0_pay24, k0_pay25, k0_pay26, k0_pay27, k0_pay28, k0_pay29, k0_pay30, headT, headR, colT, col, rowDot, tok, rmsRow]

end Cert.ProjIdeal.Body

end
-- ==== Proof.ProjQueryValue.lean ====
/-
  The arrays of queries the projections return.
-/
module

public import proofs.«01_k».proof.Proof.ProjRows
public import proofs.«01_k».proof.Proof.ProjQueryBody

@[expose] public section

set_option maxRecDepth 16384

noncomputable section

open Idealize.ShloMosaic Idealize.ShloMosaic.TcCoe Idealize.SL.Sem
open Idealize.ShloMosaic.Pipeline (Dat)

namespace Cert.ProjIdeal.Value
open Cert.ProjIdeal Cert.ProjIdeal.Gen Cert.Layer Cert.ProjIdeal.Body

variable (m : (ℓ : Loc nD τ sig) → Buf (Elt Ideal) ℓ)

/-- The array of queries. -/
def queries (x : FVec Ideal S4x8192x1024 .f32) (g : FVec Ideal S1x1024 .f32) (w : FVec Ideal S1x1024x6728 .f32) (kg : FVec Ideal S1x64 .f32) : FVec Ideal S4x512x8192 .bf16 :=
  fun i => queryAt x g w kg (i 0) (i 2) (i 1)

set_option maxHeartbeats 4000000 in
/-- What a grid point stores of the queries. -/
theorem query_point (c : Dev nD) (hg : ∀ l : Fin 1024, IsReal ((m ((c : Thread nD τ).loc main_arg1)) (ix2 0 l)))
    (hw : ∀ (k : Fin 1024) (q : Fin 6728), IsReal ((m ((c : Thread nD τ).loc main_arg2)) (ix3 0 k q))) (t : Fin cfg0.N) (r : Fin 512) (q : Fin 512) (h : t.val / 16 < 4) (h' : t.val % 16 * 512 + r.val < 8192) :
    out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 0 q r)
    = queryAt (m ((c : Thread nD τ).loc main_arg0)) (m ((c : Thread nD τ).loc main_arg1)) (m ((c : Thread nD τ).loc main_arg2)) (m ((c : Thread nD τ).loc main_arg3)) ⟨t.val / 16, h⟩ ⟨t.val % 16 * 512 + r.val, h'⟩ q := by
  refine (query_out (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) q r).trans ?_
  have hG : ∀ q l : Fin 512, iblk m c 12 t (ix2 q l) = sameGroup64 q l := fun q l => by
    refine Eq.trans ?_ (groups64_in m c q l); blk_ext [iblk, idx t]
  have b : iblk m c 8 t (ix2 q r) = (m ((c : Thread nD τ).loc main_arg3)) (ix2 0 ⟨q.val % 64, by omega⟩) := by
    refine Eq.trans ?_ (qg_in m c q r); blk_ext [iblk, idx t]
  have hf : (fun l : Fin 512 => colT (iblk m c 2 t) (tok (iblk m c 0 t) (iblk m c 1 t) r) ⟨l.val, by omega⟩)
      = fun l => projAt (m ((c : Thread nD τ).loc main_arg0)) (m ((c : Thread nD τ).loc main_arg1)) (m ((c : Thread nD τ).loc main_arg2)) ⟨t.val / 16, h⟩ ⟨t.val % 16 * 512 + r.val, h'⟩ ⟨l.val, by omega⟩ := funext fun l => q_col m c t r l h h'
  rw [hf, b]
  unfold queryAt
  rw [← headT_eq _ (fun l => projAt_real _ _ _ hg hw _ _ ⟨l.val, by omega⟩) (iblk m c 12 t) hG]

/-- The same at an index of the block, against the array. -/
theorem query_point_idx (c : Dev nD) (hg : ∀ l : Fin 1024, IsReal ((m ((c : Thread nD τ).loc main_arg1)) (ix2 0 l)))
    (hw : ∀ (k : Fin 1024) (q : Fin 6728), IsReal ((m ((c : Thread nD τ).loc main_arg2)) (ix3 0 k q))) (t : Fin cfg0.N) (y : S1x512x512.Idx) :
    out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y
    = queries (m ((c : Thread nD τ).loc main_arg0)) (m ((c : Thread nD τ).loc main_arg1)) (m ((c : Thread nD τ).loc main_arg2)) (m ((c : Thread nD τ).loc main_arg3)) (((cfg0.win 18).blk t).view.emb y) := by
  have ht := idx_lt t
  idx_vars y
  obtain rfl : y0 = 0 := Subsingleton.elim _ _
  refine (query_point m c hg hw t y2 y1 (by omega) (by omega)).trans ?_
  unfold queries
  refine congr (congrArg₂ (queryAt _ _ _ _) (Fin.ext ?_) (Fin.ext ?_)) (Fin.ext ?_) <;> blk_simp [idx t] <;> first | omega | rfl

/-- The array of queries after the run. -/
theorem query_final (c : Dev nD) (hg : ∀ l : Fin 1024, IsReal ((m ((c : Thread nD τ).loc main_arg1)) (ix2 0 l)))
    (hw : ∀ (k : Fin 1024) (q : Fin 6728), IsReal ((m ((c : Thread nD τ).loc main_arg2)) (ix3 0 k q))) : (dats m 0 c).arrAt 18 (cfgs 0).N = queries (m ((c : Thread nD τ).loc main_arg0)) (m ((c : Thread nD τ).loc main_arg1)) (m ((c : Thread nD τ).loc main_arg2)) (m ((c : Thread nD τ).loc main_arg3)) := by
  refine (dats m 0 c).arrAt_eq_of_covers 18 _ (by decide +kernel) fun t _ y => ?_
  blk_simp
  rw [after0_18]
  exact query_point_idx m c hg hw t y

/-- The array of queries of the memory attention. -/
def memQueries (x : FVec Ideal S4x8192x1024 .f32) (g : FVec Ideal S1x1024 .f32) (w : FVec Ideal S1x1024x6728 .f32) (kg : FVec Ideal S1x128 .f32) : FVec Ideal S4x8192x512 .bf16 :=
  fun i => memQueryAt x g w kg (i 0) (i 1) (i 2)

set_option maxHeartbeats 4000000 in
/-- What a grid point stores of the queries of the memory attention. -/
theorem memQuery_point (c : Dev nD) (hg : ∀ l : Fin 1024, IsReal ((m ((c : Thread nD τ).loc main_arg1)) (ix2 0 l)))
    (hw : ∀ (k : Fin 1024) (q : Fin 6728), IsReal ((m ((c : Thread nD τ).loc main_arg2)) (ix3 0 k q))) (t : Fin cfg0.N) (r : Fin 512) (q : Fin 512) (h : t.val / 16 < 4) (h' : t.val % 16 * 512 + r.val < 8192) :
    out0_25 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 0 r q)
    = memQueryAt (m ((c : Thread nD τ).loc main_arg0)) (m ((c : Thread nD τ).loc main_arg1)) (m ((c : Thread nD τ).loc main_arg2)) (m ((c : Thread nD τ).loc main_arg5)) ⟨t.val / 16, h⟩ ⟨t.val % 16 * 512 + r.val, h'⟩ q := by
  refine (memQuery_out (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) q r).trans ?_
  have hG : ∀ l q : Fin 512, iblk m c 13 t (ix2 l q) = sameGroup l q := fun l q => by
    refine Eq.trans ?_ (groups128_in m c l q); blk_ext [iblk, idx t]
  have b : iblk m c 10 t (ix2 0 q) = (m ((c : Thread nD τ).loc main_arg5)) (ix2 0 ⟨q.val % 128, by omega⟩) := by
    refine Eq.trans ?_ (mg_in m c q); blk_ext [iblk, idx t]
  have hf : (fun l : Fin 512 => col (iblk m c 7 t) (tok (iblk m c 0 t) (iblk m c 1 t) r) l)
      = fun l => projAt (m ((c : Thread nD τ).loc main_arg0)) (m ((c : Thread nD τ).loc main_arg1)) (m ((c : Thread nD τ).loc main_arg2)) ⟨t.val / 16, h⟩ ⟨t.val % 16 * 512 + r.val, h'⟩ ⟨3144 + l.val, by omega⟩ := funext fun l => qm_col m c t r l h h'
  rw [hf, b]
  unfold memQueryAt
  rw [← headR_eq _ (fun l => projAt_real _ _ _ hg hw _ _ ⟨3144 + l.val, by omega⟩) (iblk m c 13 t) hG]

/-- The same at an index of the block, against the array. -/
theorem memQuery_point_idx (c : Dev nD) (hg : ∀ l : Fin 1024, IsReal ((m ((c : Thread nD τ).loc main_arg1)) (ix2 0 l)))
    (hw : ∀ (k : Fin 1024) (q : Fin 6728), IsReal ((m ((c : Thread nD τ).loc main_arg2)) (ix3 0 k q))) (t : Fin cfg0.N) (y : S1x512x512.Idx) :
    out0_25 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y
    = memQueries (m ((c : Thread nD τ).loc main_arg0)) (m ((c : Thread nD τ).loc main_arg1)) (m ((c : Thread nD τ).loc main_arg2)) (m ((c : Thread nD τ).loc main_arg5)) (((cfg0.win 25).blk t).view.emb y) := by
  have ht := idx_lt t
  idx_vars y
  obtain rfl : y0 = 0 := Subsingleton.elim _ _
  refine (memQuery_point m c hg hw t y1 y2 (by omega) (by omega)).trans ?_
  unfold memQueries
  refine congr (congrArg₂ (memQueryAt _ _ _ _) (Fin.ext ?_) (Fin.ext ?_)) (Fin.ext ?_) <;> blk_simp [idx t] <;> first | omega | rfl

/-- The array of queries of the memory attention after the run. -/
theorem memQuery_final (c : Dev nD) (hg : ∀ l : Fin 1024, IsReal ((m ((c : Thread nD τ).loc main_arg1)) (ix2 0 l)))
    (hw : ∀ (k : Fin 1024) (q : Fin 6728), IsReal ((m ((c : Thread nD τ).loc main_arg2)) (ix3 0 k q))) : (dats m 0 c).arrAt 25 (cfgs 0).N = memQueries (m ((c : Thread nD τ).loc main_arg0)) (m ((c : Thread nD τ).loc main_arg1)) (m ((c : Thread nD τ).loc main_arg2)) (m ((c : Thread nD τ).loc main_arg5)) := by
  refine (dats m 0 c).arrAt_eq_of_covers 25 _ (by decide +kernel) fun t _ y => ?_
  blk_simp
  rw [after0_25]
  exact memQuery_point_idx m c hg hw t y

end Cert.ProjIdeal.Value

end
-- ==== Proof.ProjPlainBody.lean ====
/-
  What one grid point of the projections stores of the parts that are plain columns of the product.
-/
module

public import proofs.«01_k».proof.Proof.ProjTok
public import proofs.«01_k».proof.Proof.Gen.ProjIdeal.Frame

@[expose] public section

set_option maxRecDepth 16384

noncomputable section

open Idealize.ShloMosaic Idealize.ShloMosaic.TcCoe Idealize.SL.Sem

namespace Cert.ProjIdeal.Body
open Cert.ProjIdeal Cert.ProjIdeal.Gen Cert.Layer

/-- The block of values at a token and a column. -/
theorem value_out (x0 : FVec Ideal S1x512x1024 .f32) (x1 : FVec Ideal S1x1024 .f32) (x2 : FVec Ideal S1024x1024 .bf16) (x3 : FVec Ideal S512x1024 .bf16)
    (x4 : FVec Ideal S512x1024 .bf16) (x5 : FVec Ideal S128x1024 .bf16) (x6 : FVec Ideal S1024x1024 .bf16) (x7 : FVec Ideal S1024x512 .bf16)
    (x8 : FVec Ideal S512x512 .f32) (x9 : FVec Ideal S512x512 .f32) (x10 : FVec Ideal S1x512 .f32) (x11 : FVec Ideal S128x512 .f32)
    (x12 : FVec Ideal S512x512 .bf16) (x13 : FVec Ideal S512x512 .bf16) (q : Fin 512) (t : Fin 512) :
    out0_15 (F := Ideal) x0 x1 x2 x3 x4 x5 x6 x7 x8 x9 x10 x11 x12 x13 (ix3 0 q t) = colT x3 (tok x0 x1 t) q := by
  unfold out0_15
  frame_out
  pointwise [k0_pay2, k0_pay10, k0_pay11, k0_pay12, k0_pay30, k0_pay32, headT, headR, colT, col, rowDot, tok, rmsRow]

/-- The block of index keys at a token and a column. -/
theorem indexKey_out (x0 : FVec Ideal S1x512x1024 .f32) (x1 : FVec Ideal S1x1024 .f32) (x2 : FVec Ideal S1024x1024 .bf16) (x3 : FVec Ideal S512x1024 .bf16)
    (x4 : FVec Ideal S512x1024 .bf16) (x5 : FVec Ideal S128x1024 .bf16) (x6 : FVec Ideal S1024x1024 .bf16) (x7 : FVec Ideal S1024x512 .bf16)
    (x8 : FVec Ideal S512x512 .f32) (x9 : FVec Ideal S512x512 .f32) (x10 : FVec Ideal S1x512 .f32) (x11 : FVec Ideal S128x512 .f32)
    (x12 : FVec Ideal S512x512 .bf16) (x13 : FVec Ideal S512x512 .bf16) (q : Fin 64) (t : Fin 512) :
    out0_16 (F := Ideal) x0 x1 x2 x3 x4 x5 x6 x7 x8 x9 x10 x11 x12 x13 (ix3 0 q t) = colT x5 (tok x0 x1 t) ⟨q.val, by omega⟩ * x11 (ix2 ⟨q.val, by omega⟩ t) := by
  unfold out0_16
  frame_out
  pointwise [k0_pay2, k0_pay16, k0_pay17, k0_pay18, k0_pay30, headT, headR, colT, col, rowDot, tok, rmsRow]

/-- The block of index weights at a token and a column. -/
theorem indexWeight_out (x0 : FVec Ideal S1x512x1024 .f32) (x1 : FVec Ideal S1x1024 .f32) (x2 : FVec Ideal S1024x1024 .bf16) (x3 : FVec Ideal S512x1024 .bf16)
    (x4 : FVec Ideal S512x1024 .bf16) (x5 : FVec Ideal S128x1024 .bf16) (x6 : FVec Ideal S1024x1024 .bf16) (x7 : FVec Ideal S1024x512 .bf16)
    (x8 : FVec Ideal S512x512 .f32) (x9 : FVec Ideal S512x512 .f32) (x10 : FVec Ideal S1x512 .f32) (x11 : FVec Ideal S128x512 .f32)
    (x12 : FVec Ideal S512x512 .bf16) (x13 : FVec Ideal S512x512 .bf16) (q : Fin 8) (t : Fin 512) :
    out0_17 (F := Ideal) x0 x1 x2 x3 x4 x5 x6 x7 x8 x9 x10 x11 x12 x13 (ix3 0 q t) = colT x5 (tok x0 x1 t) ⟨64 + q.val, by omega⟩ * x11 (ix2 ⟨64 + q.val, by omega⟩ t) := by
  unfold out0_17
  frame_out
  pointwise [k0_pay2, k0_pay16, k0_pay19, k0_pay30, k0_pay33, headT, headR, colT, col, rowDot, tok, rmsRow]

/-- The block of index queries at a token and a column. -/
theorem indexQuery_out (x0 : FVec Ideal S1x512x1024 .f32) (x1 : FVec Ideal S1x1024 .f32) (x2 : FVec Ideal S1024x1024 .bf16) (x3 : FVec Ideal S512x1024 .bf16)
    (x4 : FVec Ideal S512x1024 .bf16) (x5 : FVec Ideal S128x1024 .bf16) (x6 : FVec Ideal S1024x1024 .bf16) (x7 : FVec Ideal S1024x512 .bf16)
    (x8 : FVec Ideal S512x512 .f32) (x9 : FVec Ideal S512x512 .f32) (x10 : FVec Ideal S1x512 .f32) (x11 : FVec Ideal S128x512 .f32)
    (x12 : FVec Ideal S512x512 .bf16) (x13 : FVec Ideal S512x512 .bf16) (q : Fin 512) (t : Fin 512) :
    out0_19 (F := Ideal) x0 x1 x2 x3 x4 x5 x6 x7 x8 x9 x10 x11 x12 x13 (ix3 0 q t) = colT x4 (tok x0 x1 t) q := by
  unfold out0_19
  frame_out
  pointwise [k0_pay2, k0_pay15, k0_pay30, headT, headR, colT, col, rowDot, tok, rmsRow]

/-- The block of inputs of the recurrent block at a token and a column. -/
theorem recInput_out (x0 : FVec Ideal S1x512x1024 .f32) (x1 : FVec Ideal S1x1024 .f32) (x2 : FVec Ideal S1024x1024 .bf16) (x3 : FVec Ideal S512x1024 .bf16)
    (x4 : FVec Ideal S512x1024 .bf16) (x5 : FVec Ideal S128x1024 .bf16) (x6 : FVec Ideal S1024x1024 .bf16) (x7 : FVec Ideal S1024x512 .bf16)
    (x8 : FVec Ideal S512x512 .f32) (x9 : FVec Ideal S512x512 .f32) (x10 : FVec Ideal S1x512 .f32) (x11 : FVec Ideal S128x512 .f32)
    (x12 : FVec Ideal S512x512 .bf16) (x13 : FVec Ideal S512x512 .bf16) (q : Fin 512) (t : Fin 512) :
    out0_23 (F := Ideal) x0 x1 x2 x3 x4 x5 x6 x7 x8 x9 x10 x11 x12 x13 (ix3 0 t q) = col x6 (tok x0 x1 t) ⟨q.val, by omega⟩ := by
  unfold out0_23
  frame_out
  pointwise [k0_pay2, k0_pay21, k0_pay22, k0_pay30, headT, headR, colT, col, rowDot, tok, rmsRow]

/-- The block of gates of the recurrent block at a token and a column. -/
theorem recGate_out (x0 : FVec Ideal S1x512x1024 .f32) (x1 : FVec Ideal S1x1024 .f32) (x2 : FVec Ideal S1024x1024 .bf16) (x3 : FVec Ideal S512x1024 .bf16)
    (x4 : FVec Ideal S512x1024 .bf16) (x5 : FVec Ideal S128x1024 .bf16) (x6 : FVec Ideal S1024x1024 .bf16) (x7 : FVec Ideal S1024x512 .bf16)
    (x8 : FVec Ideal S512x512 .f32) (x9 : FVec Ideal S512x512 .f32) (x10 : FVec Ideal S1x512 .f32) (x11 : FVec Ideal S128x512 .f32)
    (x12 : FVec Ideal S512x512 .bf16) (x13 : FVec Ideal S512x512 .bf16) (q : Fin 512) (t : Fin 512) :
    out0_24 (F := Ideal) x0 x1 x2 x3 x4 x5 x6 x7 x8 x9 x10 x11 x12 x13 (ix3 0 t q) = col x6 (tok x0 x1 t) ⟨512 + q.val, by omega⟩ := by
  unfold out0_24
  frame_out
  pointwise [k0_pay2, k0_pay21, k0_pay23, k0_pay30, headT, headR, colT, col, rowDot, tok, rmsRow]

end Cert.ProjIdeal.Body

end
-- ==== Proof.ProjPlainValue.lean ====
/-
  The arrays the projections return that are plain columns of the product.
-/
module

public import proofs.«01_k».proof.Proof.ProjRows
public import proofs.«01_k».proof.Proof.ProjPlainBody

@[expose] public section

set_option maxRecDepth 16384

noncomputable section

open Idealize.ShloMosaic Idealize.ShloMosaic.TcCoe Idealize.SL.Sem
open Idealize.ShloMosaic.Pipeline (Dat)

namespace Cert.ProjIdeal.Value
open Cert.ProjIdeal Cert.ProjIdeal.Gen Cert.Layer Cert.ProjIdeal.Body

variable (m : (ℓ : Loc nD τ sig) → Buf (Elt Ideal) ℓ)

/-- The array of values. -/
def values (x : FVec Ideal S4x8192x1024 .f32) (g : FVec Ideal S1x1024 .f32) (w : FVec Ideal S1x1024x6728 .f32) : FVec Ideal S4x512x8192 .f32 :=
  fun i => valueAt x g w (i 0) (i 2) (i 1)

set_option maxHeartbeats 4000000 in
/-- What a grid point stores of the values. -/
theorem value_point (c : Dev nD) (t : Fin cfg0.N) (r : Fin 512) (q : Fin 512) (h : t.val / 16 < 4) (h' : t.val % 16 * 512 + r.val < 8192) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 0 q r)
    = valueAt (m ((c : Thread nD τ).loc main_arg0)) (m ((c : Thread nD τ).loc main_arg1)) (m ((c : Thread nD τ).loc main_arg2)) ⟨t.val / 16, h⟩ ⟨t.val % 16 * 512 + r.val, h'⟩ q := by
  refine (value_out (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) q r).trans ?_
  exact v_col m c t r q h h'

/-- The same at an index of the block, against the array. -/
theorem value_point_idx (c : Dev nD) (t : Fin cfg0.N) (y : S1x512x512.Idx) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y
    = values (m ((c : Thread nD τ).loc main_arg0)) (m ((c : Thread nD τ).loc main_arg1)) (m ((c : Thread nD τ).loc main_arg2)) (((cfg0.win 15).blk t).view.emb y) := by
  have ht := idx_lt t
  idx_vars y
  obtain rfl : y0 = 0 := Subsingleton.elim _ _
  refine (value_point m c t y2 y1 (by omega) (by omega)).trans ?_
  unfold values
  refine congr (congrArg₂ (valueAt _ _ _) (Fin.ext ?_) (Fin.ext ?_)) (Fin.ext ?_) <;> blk_simp [idx t] <;> first | omega | rfl

/-- The array of values after the run. -/
theorem value_final (c : Dev nD) : (dats m 0 c).arrAt 15 (cfgs 0).N = values (m ((c : Thread nD τ).loc main_arg0)) (m ((c : Thread nD τ).loc main_arg1)) (m ((c : Thread nD τ).loc main_arg2)) := by
  refine (dats m 0 c).arrAt_eq_of_covers 15 _ (by decide +kernel) fun t _ y => ?_
  blk_simp
  rw [after0_15]
  exact value_point_idx m c t y

/-- The array of index keys. -/
def indexKeys (x : FVec Ideal S4x8192x1024 .f32) (g : FVec Ideal S1x1024 .f32) (w : FVec Ideal S1x1024x6728 .f32) : FVec Ideal S4x64x8192 .f32 :=
  fun i => indexKeyAt x g w (i 0) (i 2) (i 1)

set_option maxHeartbeats 4000000 in
/-- What a grid point stores of the index keys. -/
theorem indexKey_point (c : Dev nD) (t : Fin cfg0.N) (r : Fin 512) (q : Fin 64) (h : t.val / 16 < 4) (h' : t.val % 16 * 512 + r.val < 8192) :
    out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 0 q r)
    = indexKeyAt (m ((c : Thread nD τ).loc main_arg0)) (m ((c : Thread nD τ).loc main_arg1)) (m ((c : Thread nD τ).loc main_arg2)) ⟨t.val / 16, h⟩ ⟨t.val % 16 * 512 + r.val, h'⟩ q := by
  refine (indexKey_out (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) q r).trans ?_
  have b : iblk m c 11 t (ix2 ⟨q.val, by omega⟩ r) = Ideal.ofBits .f32 0x3F800000#32 := by
    refine Eq.trans ?_ (ks_in m c q r); blk_ext [iblk, idx t]
  rw [b, ki_col m c t r q h h']
  rw [ofBits_one, mul_one]
  rfl

/-- The same at an index of the block, against the array. -/
theorem indexKey_point_idx (c : Dev nD) (t : Fin cfg0.N) (y : S1x64x512.Idx) :
    out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y
    = indexKeys (m ((c : Thread nD τ).loc main_arg0)) (m ((c : Thread nD τ).loc main_arg1)) (m ((c : Thread nD τ).loc main_arg2)) (((cfg0.win 16).blk t).view.emb y) := by
  have ht := idx_lt t
  idx_vars y
  obtain rfl : y0 = 0 := Subsingleton.elim _ _
  refine (indexKey_point m c t y2 y1 (by omega) (by omega)).trans ?_
  unfold indexKeys
  refine congr (congrArg₂ (indexKeyAt _ _ _) (Fin.ext ?_) (Fin.ext ?_)) (Fin.ext ?_) <;> blk_simp [idx t] <;> first | omega | rfl

/-- The array of index keys after the run. -/
theorem indexKey_final (c : Dev nD) : (dats m 0 c).arrAt 16 (cfgs 0).N = indexKeys (m ((c : Thread nD τ).loc main_arg0)) (m ((c : Thread nD τ).loc main_arg1)) (m ((c : Thread nD τ).loc main_arg2)) := by
  refine (dats m 0 c).arrAt_eq_of_covers 16 _ (by decide +kernel) fun t _ y => ?_
  blk_simp
  rw [after0_16]
  exact indexKey_point_idx m c t y

/-- The array of index weights. -/
def indexWeights (x : FVec Ideal S4x8192x1024 .f32) (g : FVec Ideal S1x1024 .f32) (w : FVec Ideal S1x1024x6728 .f32) : FVec Ideal S4x8x8192 .f32 :=
  fun i => indexWeightAt x g w (i 0) (i 2) (i 1)

set_option maxHeartbeats 4000000 in
/-- What a grid point stores of the index weights. -/
theorem indexWeight_point (c : Dev nD) (t : Fin cfg0.N) (r : Fin 512) (q : Fin 8) (h : t.val / 16 < 4) (h' : t.val % 16 * 512 + r.val < 8192) :
    out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 0 q r)
    = indexWeightAt (m ((c : Thread nD τ).loc main_arg0)) (m ((c : Thread nD τ).loc main_arg1)) (m ((c : Thread nD τ).loc main_arg2)) ⟨t.val / 16, h⟩ ⟨t.val % 16 * 512 + r.val, h'⟩ q := by
  refine (indexWeight_out (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) q r).trans ?_
  have b : iblk m c 11 t (ix2 ⟨64 + q.val, by omega⟩ r) = Ideal.ofBits .f32 0x3D3504F3#32 := by
    refine Eq.trans ?_ (ws_in m c q r); blk_ext [iblk, idx t]
  rw [b, wi_col m c t r q h h']
  rfl

/-- The same at an index of the block, against the array. -/
theorem indexWeight_point_idx (c : Dev nD) (t : Fin cfg0.N) (y : S1x8x512.Idx) :
    out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y
    = indexWeights (m ((c : Thread nD τ).loc main_arg0)) (m ((c : Thread nD τ).loc main_arg1)) (m ((c : Thread nD τ).loc main_arg2)) (((cfg0.win 17).blk t).view.emb y) := by
  have ht := idx_lt t
  idx_vars y
  obtain rfl : y0 = 0 := Subsingleton.elim _ _
  refine (indexWeight_point m c t y2 y1 (by omega) (by omega)).trans ?_
  unfold indexWeights
  refine congr (congrArg₂ (indexWeightAt _ _ _) (Fin.ext ?_) (Fin.ext ?_)) (Fin.ext ?_) <;> blk_simp [idx t] <;> first | omega | rfl

/-- The array of index weights after the run. -/
theorem indexWeight_final (c : Dev nD) : (dats m 0 c).arrAt 17 (cfgs 0).N = indexWeights (m ((c : Thread nD τ).loc main_arg0)) (m ((c : Thread nD τ).loc main_arg1)) (m ((c : Thread nD τ).loc main_arg2)) := by
  refine (dats m 0 c).arrAt_eq_of_covers 17 _ (by decide +kernel) fun t _ y => ?_
  blk_simp
  rw [after0_17]
  exact indexWeight_point_idx m c t y

/-- The array of index queries. -/
def indexQueries (x : FVec Ideal S4x8192x1024 .f32) (g : FVec Ideal S1x1024 .f32) (w : FVec Ideal S1x1024x6728 .f32) : FVec Ideal S4x512x8192 .bf16 :=
  fun i => indexQueryAt x g w (i 0) (i 2) (i 1)

set_option maxHeartbeats 4000000 in
/-- What a grid point stores of the index queries. -/
theorem indexQuery_point (c : Dev nD) (t : Fin cfg0.N) (r : Fin 512) (q : Fin 512) (h : t.val / 16 < 4) (h' : t.val % 16 * 512 + r.val < 8192) :
    out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 0 q r)
    = indexQueryAt (m ((c : Thread nD τ).loc main_arg0)) (m ((c : Thread nD τ).loc main_arg1)) (m ((c : Thread nD τ).loc main_arg2)) ⟨t.val / 16, h⟩ ⟨t.val % 16 * 512 + r.val, h'⟩ q := by
  refine (indexQuery_out (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) q r).trans ?_
  exact qi_col m c t r q h h'

/-- The same at an index of the block, against the array. -/
theorem indexQuery_point_idx (c : Dev nD) (t : Fin cfg0.N) (y : S1x512x512.Idx) :
    out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y
    = indexQueries (m ((c : Thread nD τ).loc main_arg0)) (m ((c : Thread nD τ).loc main_arg1)) (m ((c : Thread nD τ).loc main_arg2)) (((cfg0.win 19).blk t).view.emb y) := by
  have ht := idx_lt t
  idx_vars y
  obtain rfl : y0 = 0 := Subsingleton.elim _ _
  refine (indexQuery_point m c t y2 y1 (by omega) (by omega)).trans ?_
  unfold indexQueries
  refine congr (congrArg₂ (indexQueryAt _ _ _) (Fin.ext ?_) (Fin.ext ?_)) (Fin.ext ?_) <;> blk_simp [idx t] <;> first | omega | rfl

/-- The array of index queries after the run. -/
theorem indexQuery_final (c : Dev nD) : (dats m 0 c).arrAt 19 (cfgs 0).N = indexQueries (m ((c : Thread nD τ).loc main_arg0)) (m ((c : Thread nD τ).loc main_arg1)) (m ((c : Thread nD τ).loc main_arg2)) := by
  refine (dats m 0 c).arrAt_eq_of_covers 19 _ (by decide +kernel) fun t _ y => ?_
  blk_simp
  rw [after0_19]
  exact indexQuery_point_idx m c t y

/-- The array of inputs of the recurrent block. -/
def recInputs (x : FVec Ideal S4x8192x1024 .f32) (g : FVec Ideal S1x1024 .f32) (w : FVec Ideal S1x1024x6728 .f32) : FVec Ideal S4x8192x512 .f32 :=
  fun i => recInputAt x g w (i 0) (i 1) (i 2)

set_option maxHeartbeats 4000000 in
/-- What a grid point stores of the inputs of the recurrent block. -/
theorem recInput_point (c : Dev nD) (t : Fin cfg0.N) (r : Fin 512) (q : Fin 512) (h : t.val / 16 < 4) (h' : t.val % 16 * 512 + r.val < 8192) :
    out0_23 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 0 r q)
    = recInputAt (m ((c : Thread nD τ).loc main_arg0)) (m ((c : Thread nD τ).loc main_arg1)) (m ((c : Thread nD τ).loc main_arg2)) ⟨t.val / 16, h⟩ ⟨t.val % 16 * 512 + r.val, h'⟩ q := by
  refine (recInput_out (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) q r).trans ?_
  exact lx_col m c t r q h h'

/-- The same at an index of the block, against the array. -/
theorem recInput_point_idx (c : Dev nD) (t : Fin cfg0.N) (y : S1x512x512.Idx) :
    out0_23 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y
    = recInputs (m ((c : Thread nD τ).loc main_arg0)) (m ((c : Thread nD τ).loc main_arg1)) (m ((c : Thread nD τ).loc main_arg2)) (((cfg0.win 23).blk t).view.emb y) := by
  have ht := idx_lt t
  idx_vars y
  obtain rfl : y0 = 0 := Subsingleton.elim _ _
  refine (recInput_point m c t y1 y2 (by omega) (by omega)).trans ?_
  unfold recInputs
  refine congr (congrArg₂ (recInputAt _ _ _) (Fin.ext ?_) (Fin.ext ?_)) (Fin.ext ?_) <;> blk_simp [idx t] <;> first | omega | rfl

/-- The array of inputs of the recurrent block after the run. -/
theorem recInput_final (c : Dev nD) : (dats m 0 c).arrAt 23 (cfgs 0).N = recInputs (m ((c : Thread nD τ).loc main_arg0)) (m ((c : Thread nD τ).loc main_arg1)) (m ((c : Thread nD τ).loc main_arg2)) := by
  refine (dats m 0 c).arrAt_eq_of_covers 23 _ (by decide +kernel) fun t _ y => ?_
  blk_simp
  rw [after0_23]
  exact recInput_point_idx m c t y

/-- The array of gates of the recurrent block. -/
def recGates (x : FVec Ideal S4x8192x1024 .f32) (g : FVec Ideal S1x1024 .f32) (w : FVec Ideal S1x1024x6728 .f32) : FVec Ideal S4x8192x512 .f32 :=
  fun i => recGateAt x g w (i 0) (i 1) (i 2)

set_option maxHeartbeats 4000000 in
/-- What a grid point stores of the gates of the recurrent block. -/
theorem recGate_point (c : Dev nD) (t : Fin cfg0.N) (r : Fin 512) (q : Fin 512) (h : t.val / 16 < 4) (h' : t.val % 16 * 512 + r.val < 8192) :
    out0_24 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 0 r q)
    = recGateAt (m ((c : Thread nD τ).loc main_arg0)) (m ((c : Thread nD τ).loc main_arg1)) (m ((c : Thread nD τ).loc main_arg2)) ⟨t.val / 16, h⟩ ⟨t.val % 16 * 512 + r.val, h'⟩ q := by
  refine (recGate_out (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) q r).trans ?_
  exact lg_col m c t r q h h'

/-- The same at an index of the block, against the array. -/
theorem recGate_point_idx (c : Dev nD) (t : Fin cfg0.N) (y : S1x512x512.Idx) :
    out0_24 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y
    = recGates (m ((c : Thread nD τ).loc main_arg0)) (m ((c : Thread nD τ).loc main_arg1)) (m ((c : Thread nD τ).loc main_arg2)) (((cfg0.win 24).blk t).view.emb y) := by
  have ht := idx_lt t
  idx_vars y
  obtain rfl : y0 = 0 := Subsingleton.elim _ _
  refine (recGate_point m c t y1 y2 (by omega) (by omega)).trans ?_
  unfold recGates
  refine congr (congrArg₂ (recGateAt _ _ _) (Fin.ext ?_) (Fin.ext ?_)) (Fin.ext ?_) <;> blk_simp [idx t] <;> first | omega | rfl

/-- The array of gates of the recurrent block after the run. -/
theorem recGate_final (c : Dev nD) : (dats m 0 c).arrAt 24 (cfgs 0).N = recGates (m ((c : Thread nD τ).loc main_arg0)) (m ((c : Thread nD τ).loc main_arg1)) (m ((c : Thread nD τ).loc main_arg2)) := by
  refine (dats m 0 c).arrAt_eq_of_covers 24 _ (by decide +kernel) fun t _ y => ?_
  blk_simp
  rw [after0_24]
  exact recGate_point_idx m c t y

end Cert.ProjIdeal.Value

end
-- ==== Proof.ProjKeyRef.lean ====
/-
  The reference of the projections, read at a token and a column.
-/
module

public import proofs.«01_k».proof.Proof.ProjSpec
public import proofs.«01_k».proof.Proof.Gen.ProjRefIdeal.Read

@[expose] public section

set_option maxRecDepth 16384

noncomputable section

open Idealize.ShloMosaic Idealize.ShloMosaic.TcCoe Idealize.SL.Sem

namespace Cert.ProjRefIdeal.At
open Cert.ProjRefIdeal Cert.ProjRefIdeal.Gen Cert.ProjRefIdeal.Read Cert.Layer

/-- The reference's keys. -/
theorem key_at (x : FVec Ideal S4x8192x1024 .f32) (g : FVec Ideal S1x1024 .f32) (w : FVec Ideal S1x1024x6728 .f32) (kg : FVec Ideal S1x64 .f32) (b : Fin 4) (t : Fin 8192) (q : Fin 512) :
    val_main_v74 (F := Ideal) x g w kg (ix3 b q t) = keyAt x g w kg b t q := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_v15, val_main_v17, val_main_v42, val_main_v43, val_main_v44, val_main_cst_5, val_main_v45, val_main_v46, val_main_cst_6, val_main_v47, val_main_v48, val_main_cst_7, val_main_v49, val_main_v50, val_main_v51, val_main_v52, val_main_v53, val_main_v54, val_main_v55, val_main_v56, val_main_v57, val_main_v74, keyAt, projAt, head64, head128, rowDot, rmsRow]

/-- The reference's keys, a token a row. -/
theorem keyRow_at (x : FVec Ideal S4x8192x1024 .f32) (g : FVec Ideal S1x1024 .f32) (w : FVec Ideal S1x1024x6728 .f32) (kg : FVec Ideal S1x64 .f32) (b : Fin 4) (t : Fin 8192) (q : Fin 512) :
    val_main_v86 (F := Ideal) x g w kg (ix3 b t q) = keyAt x g w kg b t q := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_v15, val_main_v17, val_main_v42, val_main_v43, val_main_v44, val_main_cst_5, val_main_v45, val_main_v46, val_main_cst_6, val_main_v47, val_main_v48, val_main_cst_7, val_main_v49, val_main_v50, val_main_v51, val_main_v52, val_main_v53, val_main_v54, val_main_v55, val_main_v56, val_main_v57, val_main_v86, keyAt, projAt, head64, head128, rowDot, rmsRow]

end Cert.ProjRefIdeal.At

end
-- ==== Proof.ProjQueryRef.lean ====
/-
  The reference of the projections, read at a token and a column.
-/
module

public import proofs.«01_k».proof.Proof.ProjSpec
public import proofs.«01_k».proof.Proof.Gen.ProjRefIdeal.Read

@[expose] public section

set_option maxRecDepth 16384

noncomputable section

open Idealize.ShloMosaic Idealize.ShloMosaic.TcCoe Idealize.SL.Sem

namespace Cert.ProjRefIdeal.At
open Cert.ProjRefIdeal Cert.ProjRefIdeal.Gen Cert.ProjRefIdeal.Read Cert.Layer

/-- The reference's queries. -/
theorem query_at (x : FVec Ideal S4x8192x1024 .f32) (g : FVec Ideal S1x1024 .f32) (w : FVec Ideal S1x1024x6728 .f32) (qg : FVec Ideal S1x64 .f32) (b : Fin 4) (t : Fin 8192) (q : Fin 512) :
    val_main_v83 (F := Ideal) x g w qg (ix3 b q t) = queryAt x g w qg b t q := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_v15, val_main_v16, val_main_v26, val_main_v27, val_main_v28, val_main_cst_2, val_main_v29, val_main_v30, val_main_cst_3, val_main_v31, val_main_v32, val_main_cst_4, val_main_v33, val_main_v34, val_main_v35, val_main_v36, val_main_v37, val_main_v38, val_main_v39, val_main_v40, val_main_v41, val_main_cst_12, val_main_v80, val_main_v81, val_main_v82, val_main_v83, queryAt, projAt, head64, head128, rowDot, rmsRow]

/-- The reference's queries of the memory attention. -/
theorem memQuery_at (x : FVec Ideal S4x8192x1024 .f32) (g : FVec Ideal S1x1024 .f32) (w : FVec Ideal S1x1024x6728 .f32) (mg : FVec Ideal S1x128 .f32) (b : Fin 4) (t : Fin 8192) (q : Fin 512) :
    val_main_v87 (F := Ideal) x g w mg (ix3 b t q) = memQueryAt x g w mg b t q := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_v15, val_main_v24, val_main_v58, val_main_v59, val_main_v60, val_main_cst_8, val_main_v61, val_main_v62, val_main_cst_9, val_main_v63, val_main_v64, val_main_cst_10, val_main_v65, val_main_v66, val_main_v67, val_main_v68, val_main_v69, val_main_v70, val_main_v71, val_main_v72, val_main_v73, val_main_v87, memQueryAt, projAt, head64, head128, rowDot, rmsRow]

end Cert.ProjRefIdeal.At

end
-- ==== Proof.ProjPlainRef.lean ====
/-
  The reference of the projections, read at a token and a column.
-/
module

public import proofs.«01_k».proof.Proof.ProjSpec
public import proofs.«01_k».proof.Proof.Gen.ProjRefIdeal.Read

@[expose] public section

set_option maxRecDepth 16384

noncomputable section

open Idealize.ShloMosaic Idealize.ShloMosaic.TcCoe Idealize.SL.Sem

namespace Cert.ProjRefIdeal.At
open Cert.ProjRefIdeal Cert.ProjRefIdeal.Gen Cert.ProjRefIdeal.Read Cert.Layer

/-- The reference's values. -/
theorem value_at (x : FVec Ideal S4x8192x1024 .f32) (g : FVec Ideal S1x1024 .f32) (w : FVec Ideal S1x1024x6728 .f32) (b : Fin 4) (t : Fin 8192) (q : Fin 512) :
    val_main_v75 (F := Ideal) x g w (ix3 b q t) = valueAt x g w b t q := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_v15, val_main_v18, val_main_v75, valueAt, projAt, head64, head128, rowDot, rmsRow]

/-- The reference's index keys. -/
theorem indexKey_at (x : FVec Ideal S4x8192x1024 .f32) (g : FVec Ideal S1x1024 .f32) (w : FVec Ideal S1x1024x6728 .f32) (b : Fin 4) (t : Fin 8192) (q : Fin 64) :
    val_main_v76 (F := Ideal) x g w (ix3 b q t) = indexKeyAt x g w b t q := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_v15, val_main_v20, val_main_v76, indexKeyAt, projAt, head64, head128, rowDot, rmsRow]

/-- The reference's index weights. -/
theorem indexWeight_at (x : FVec Ideal S4x8192x1024 .f32) (g : FVec Ideal S1x1024 .f32) (w : FVec Ideal S1x1024x6728 .f32) (b : Fin 4) (t : Fin 8192) (q : Fin 8) :
    val_main_v79 (F := Ideal) x g w (ix3 b q t) = indexWeightAt x g w b t q := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_v15, val_main_v21, val_main_cst_11, val_main_v77, val_main_v78, val_main_v79, indexWeightAt, projAt, head64, head128, rowDot, rmsRow]

/-- The reference's index queries. -/
theorem indexQuery_at (x : FVec Ideal S4x8192x1024 .f32) (g : FVec Ideal S1x1024 .f32) (w : FVec Ideal S1x1024x6728 .f32) (b : Fin 4) (t : Fin 8192) (q : Fin 512) :
    val_main_v85 (F := Ideal) x g w (ix3 b q t) = indexQueryAt x g w b t q := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_v15, val_main_v19, val_main_v84, val_main_v85, indexQueryAt, projAt, head64, head128, rowDot, rmsRow]

/-- The reference's inputs of the recurrent block. -/
theorem recInput_at (x : FVec Ideal S4x8192x1024 .f32) (g : FVec Ideal S1x1024 .f32) (w : FVec Ideal S1x1024x6728 .f32) (b : Fin 4) (t : Fin 8192) (q : Fin 512) :
    val_main_v22 (F := Ideal) x g w (ix3 b t q) = recInputAt x g w b t q := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_v15, val_main_v22, recInputAt, projAt, head64, head128, rowDot, rmsRow]

/-- The reference's gates of the recurrent block. -/
theorem recGate_at (x : FVec Ideal S4x8192x1024 .f32) (g : FVec Ideal S1x1024 .f32) (w : FVec Ideal S1x1024x6728 .f32) (b : Fin 4) (t : Fin 8192) (q : Fin 512) :
    val_main_v23 (F := Ideal) x g w (ix3 b t q) = recGateAt x g w b t q := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_v15, val_main_v23, recGateAt, projAt, head64, head128, rowDot, rmsRow]

end Cert.ProjRefIdeal.At

end
-- ==== Proof.ProjClaim.lean ====
/-
  The value claim of the projections: run from the same arguments, the gain of the norm and the weights finite, the kernel
  and its reference return the same ten arrays.
-/
module

public import proofs.«01_k».proof.Defs
public import proofs.«01_k».proof.Proof.Gen.Proj
public import proofs.«01_k».proof.Proof.Gen.Pre_finite_projection
public import proofs.«01_k».proof.Proof.KvClaim
public import proofs.«01_k».proof.Proof.ProjKeyValue
public import proofs.«01_k».proof.Proof.ProjQueryValue
public import proofs.«01_k».proof.Proof.ProjPlainValue
public import proofs.«01_k».proof.Proof.ProjKeyRef
public import proofs.«01_k».proof.Proof.ProjQueryRef
public import proofs.«01_k».proof.Proof.ProjPlainRef
public import proofs.«01_k».proof.Proof.Gen.ProjRefIdeal.Run

@[expose] public section

set_option maxRecDepth 16384

noncomputable section

open Idealize.ShloMosaic Idealize.ShloMosaic.TcCoe Idealize.SL.Sem

namespace Cert.ProjClaim
open Cert.Layer

/-- The precondition at an entry of the weights: that entry and the gain of its row are numbers. -/
theorem real_of_pre (x : FVec Ideal Cert.ProjIdeal.S4x8192x1024 .f32) (g : FVec Ideal Cert.ProjIdeal.S1x1024 .f32)
    (w : FVec Ideal Cert.ProjIdeal.S1x1024x6728 .f32) (qg kg : FVec Ideal Cert.ProjIdeal.S1x64 .f32) (mg : FVec Ideal Cert.ProjIdeal.S1x128 .f32)
    (h : Cert.Pre_finite_projection.fn (F := Ideal) x g w qg kg mg = fun _ => 1#1) (k : Fin 1024) (q : Fin 6728) :
    IsReal (w (ix3 0 k q)) ∧ IsReal (g (ix2 0 k)) := by
  have e : Cert.Pre_finite_projection.fn (F := Ideal) x g w qg kg mg (ix3 0 k q)
      = Ideal.cmp .olt (max (w (ix3 0 k q)) (-(w (ix3 0 k q)))) (Ideal.ofBits .f32 0x7F800000#32)
        &&& Ideal.cmp .olt (max (g (ix2 0 k)) (-(g (ix2 0 k)))) (Ideal.ofBits .f32 0x7F800000#32) := by
    pointwise [Cert.Pre_finite_projection.fn]
    rfl
  have h1 := e.symm.trans (congrFun h (ix3 0 k q))
  generalize ha : Ideal.cmp .olt (max (w (ix3 0 k q)) (-(w (ix3 0 k q)))) (Ideal.ofBits .f32 0x7F800000#32) = a at h1
  generalize hb : Ideal.cmp .olt (max (g (ix2 0 k)) (-(g (ix2 0 k)))) (Ideal.ofBits .f32 0x7F800000#32) = b at h1
  have hab : ∀ a b : BitVec 1, a &&& b = 1#1 → a = 1#1 ∧ b = 1#1 := by decide
  obtain ⟨h2, h3⟩ := hab a b h1
  exact ⟨Cert.KvClaim.isReal_of_abs _ (ha.trans h2), Cert.KvClaim.isReal_of_abs _ (hb.trans h3)⟩

/-- The reference's keys are the ones the kernel returns. -/
theorem key_result (x : FVec Ideal Cert.ProjRefIdeal.S4x8192x1024 .f32) (g : FVec Ideal Cert.ProjRefIdeal.S1x1024 .f32) (w : FVec Ideal Cert.ProjRefIdeal.S1x1024x6728 .f32) (kg : FVec Ideal Cert.ProjRefIdeal.S1x64 .f32) :
    Cert.ProjRefIdeal.Read.val_main_v74 (F := Ideal) x g w kg = Cert.ProjIdeal.Value.keys x g w kg := by
  funext i
  idx_vars i
  exact Cert.ProjRefIdeal.At.key_at x g w kg _ _ _

/-- The reference's values are the ones the kernel returns. -/
theorem value_result (x : FVec Ideal Cert.ProjRefIdeal.S4x8192x1024 .f32) (g : FVec Ideal Cert.ProjRefIdeal.S1x1024 .f32) (w : FVec Ideal Cert.ProjRefIdeal.S1x1024x6728 .f32) :
    Cert.ProjRefIdeal.Read.val_main_v75 (F := Ideal) x g w = Cert.ProjIdeal.Value.values x g w := by
  funext i
  idx_vars i
  exact Cert.ProjRefIdeal.At.value_at x g w _ _ _

/-- The reference's index keys are the ones the kernel returns. -/
theorem indexKey_result (x : FVec Ideal Cert.ProjRefIdeal.S4x8192x1024 .f32) (g : FVec Ideal Cert.ProjRefIdeal.S1x1024 .f32) (w : FVec Ideal Cert.ProjRefIdeal.S1x1024x6728 .f32) :
    Cert.ProjRefIdeal.Read.val_main_v76 (F := Ideal) x g w = Cert.ProjIdeal.Value.indexKeys x g w := by
  funext i
  idx_vars i
  exact Cert.ProjRefIdeal.At.indexKey_at x g w _ _ _

/-- The reference's index weights are the ones the kernel returns. -/
theorem indexWeight_result (x : FVec Ideal Cert.ProjRefIdeal.S4x8192x1024 .f32) (g : FVec Ideal Cert.ProjRefIdeal.S1x1024 .f32) (w : FVec Ideal Cert.ProjRefIdeal.S1x1024x6728 .f32) :
    Cert.ProjRefIdeal.Read.val_main_v79 (F := Ideal) x g w = Cert.ProjIdeal.Value.indexWeights x g w := by
  funext i
  idx_vars i
  exact Cert.ProjRefIdeal.At.indexWeight_at x g w _ _ _

/-- The reference's queries are the ones the kernel returns. -/
theorem query_result (x : FVec Ideal Cert.ProjRefIdeal.S4x8192x1024 .f32) (g : FVec Ideal Cert.ProjRefIdeal.S1x1024 .f32) (w : FVec Ideal Cert.ProjRefIdeal.S1x1024x6728 .f32) (qg : FVec Ideal Cert.ProjRefIdeal.S1x64 .f32) :
    Cert.ProjRefIdeal.Read.val_main_v83 (F := Ideal) x g w qg = Cert.ProjIdeal.Value.queries x g w qg := by
  funext i
  idx_vars i
  exact Cert.ProjRefIdeal.At.query_at x g w qg _ _ _

/-- The reference's index queries are the ones the kernel returns. -/
theorem indexQuery_result (x : FVec Ideal Cert.ProjRefIdeal.S4x8192x1024 .f32) (g : FVec Ideal Cert.ProjRefIdeal.S1x1024 .f32) (w : FVec Ideal Cert.ProjRefIdeal.S1x1024x6728 .f32) :
    Cert.ProjRefIdeal.Read.val_main_v85 (F := Ideal) x g w = Cert.ProjIdeal.Value.indexQueries x g w := by
  funext i
  idx_vars i
  exact Cert.ProjRefIdeal.At.indexQuery_at x g w _ _ _

/-- The reference's keys, a token a row, are the ones the kernel returns. -/
theorem keyRow_result (x : FVec Ideal Cert.ProjRefIdeal.S4x8192x1024 .f32) (g : FVec Ideal Cert.ProjRefIdeal.S1x1024 .f32) (w : FVec Ideal Cert.ProjRefIdeal.S1x1024x6728 .f32) (kg : FVec Ideal Cert.ProjRefIdeal.S1x64 .f32) :
    Cert.ProjRefIdeal.Read.val_main_v86 (F := Ideal) x g w kg = Cert.ProjIdeal.Value.keyRows x g w kg := by
  funext i
  idx_vars i
  exact Cert.ProjRefIdeal.At.keyRow_at x g w kg _ _ _

/-- The reference's inputs of the recurrent block are the ones the kernel returns. -/
theorem recInput_result (x : FVec Ideal Cert.ProjRefIdeal.S4x8192x1024 .f32) (g : FVec Ideal Cert.ProjRefIdeal.S1x1024 .f32) (w : FVec Ideal Cert.ProjRefIdeal.S1x1024x6728 .f32) :
    Cert.ProjRefIdeal.Read.val_main_v22 (F := Ideal) x g w = Cert.ProjIdeal.Value.recInputs x g w := by
  funext i
  idx_vars i
  exact Cert.ProjRefIdeal.At.recInput_at x g w _ _ _

/-- The reference's gates of the recurrent block are the ones the kernel returns. -/
theorem recGate_result (x : FVec Ideal Cert.ProjRefIdeal.S4x8192x1024 .f32) (g : FVec Ideal Cert.ProjRefIdeal.S1x1024 .f32) (w : FVec Ideal Cert.ProjRefIdeal.S1x1024x6728 .f32) :
    Cert.ProjRefIdeal.Read.val_main_v23 (F := Ideal) x g w = Cert.ProjIdeal.Value.recGates x g w := by
  funext i
  idx_vars i
  exact Cert.ProjRefIdeal.At.recGate_at x g w _ _ _

/-- The reference's queries to the memory are the ones the kernel returns. -/
theorem memQuery_result (x : FVec Ideal Cert.ProjRefIdeal.S4x8192x1024 .f32) (g : FVec Ideal Cert.ProjRefIdeal.S1x1024 .f32) (w : FVec Ideal Cert.ProjRefIdeal.S1x1024x6728 .f32) (mg : FVec Ideal Cert.ProjRefIdeal.S1x128 .f32) :
    Cert.ProjRefIdeal.Read.val_main_v87 (F := Ideal) x g w mg = Cert.ProjIdeal.Value.memQueries x g w mg := by
  funext i
  idx_vars i
  exact Cert.ProjRefIdeal.At.memQuery_at x g w mg _ _ _

set_option maxHeartbeats 2000000 in
/-- What a run of the kernel ends with: the ten arrays, and the arguments as they were. -/
theorem kernel_run (m : (ℓ : Loc Cert.ProjIdeal.nD Cert.ProjIdeal.τ Cert.ProjIdeal.sig) → Buf (Elt Ideal) ℓ) (ρ : Dev Cert.ProjIdeal.nD → PrngReg)
    (hg : ∀ (c : Dev Cert.ProjIdeal.nD) (l : Fin 1024), IsReal ((m ((c.tc : Thread Cert.ProjIdeal.nD Cert.ProjIdeal.τ).loc Cert.ProjIdeal.main_arg1)) (ix2 0 l)))
    (hw : ∀ (c : Dev Cert.ProjIdeal.nD) (k : Fin 1024) (q : Fin 6728), IsReal ((m ((c.tc : Thread Cert.ProjIdeal.nD Cert.ProjIdeal.τ).loc Cert.ProjIdeal.main_arg2)) (ix3 0 k q))) :
    θ_run (Cert.ProjIdeal.defs (F := Ideal)) (onTc (τ := Cert.ProjIdeal.τ) (Cert.ProjIdeal.main (F := Ideal))) ⟨m, fun _ => 0, ρ⟩ fun r => ∀ c : Dev Cert.ProjIdeal.nD,
      r.2.mem ((c.tc : Thread Cert.ProjIdeal.nD Cert.ProjIdeal.τ).loc Cert.ProjIdeal.main_v78_0) = Cert.ProjIdeal.Value.keys (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg4))
      ∧ r.2.mem ((c.tc : Thread Cert.ProjIdeal.nD Cert.ProjIdeal.τ).loc Cert.ProjIdeal.main_v78_1) = Cert.ProjIdeal.Value.values (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2))
      ∧ r.2.mem ((c.tc : Thread Cert.ProjIdeal.nD Cert.ProjIdeal.τ).loc Cert.ProjIdeal.main_v78_2) = Cert.ProjIdeal.Value.indexKeys (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2))
      ∧ r.2.mem ((c.tc : Thread Cert.ProjIdeal.nD Cert.ProjIdeal.τ).loc Cert.ProjIdeal.main_v78_3) = Cert.ProjIdeal.Value.indexWeights (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2))
      ∧ r.2.mem ((c.tc : Thread Cert.ProjIdeal.nD Cert.ProjIdeal.τ).loc Cert.ProjIdeal.main_v78_4) = Cert.ProjIdeal.Value.queries (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3))
      ∧ r.2.mem ((c.tc : Thread Cert.ProjIdeal.nD Cert.ProjIdeal.τ).loc Cert.ProjIdeal.main_v78_5) = Cert.ProjIdeal.Value.indexQueries (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2))
      ∧ r.2.mem ((c.tc : Thread Cert.ProjIdeal.nD Cert.ProjIdeal.τ).loc Cert.ProjIdeal.main_v78_6) = Cert.ProjIdeal.Value.keyRows (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg4))
      ∧ r.2.mem ((c.tc : Thread Cert.ProjIdeal.nD Cert.ProjIdeal.τ).loc Cert.ProjIdeal.main_v78_9) = Cert.ProjIdeal.Value.recInputs (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2))
      ∧ r.2.mem ((c.tc : Thread Cert.ProjIdeal.nD Cert.ProjIdeal.τ).loc Cert.ProjIdeal.main_v78_10) = Cert.ProjIdeal.Value.recGates (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2))
      ∧ r.2.mem ((c.tc : Thread Cert.ProjIdeal.nD Cert.ProjIdeal.τ).loc Cert.ProjIdeal.main_v78_11) = Cert.ProjIdeal.Value.memQueries (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg5))
      ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5) :=
  θ_run_mono (θ_run_and (Cert.ProjIdeal.Gen.run_main m ρ) (Cert.ProjIdeal.Gen.unchanged m ρ)) fun r h c =>
    ⟨((h.1 c).1 14).trans (Cert.ProjIdeal.Value.key_final m c (hg c) (hw c)),
      ((h.1 c).1 15).trans (Cert.ProjIdeal.Value.value_final m c),
      ((h.1 c).1 16).trans (Cert.ProjIdeal.Value.indexKey_final m c),
      ((h.1 c).1 17).trans (Cert.ProjIdeal.Value.indexWeight_final m c),
      ((h.1 c).1 18).trans (Cert.ProjIdeal.Value.query_final m c (hg c) (hw c)),
      ((h.1 c).1 19).trans (Cert.ProjIdeal.Value.indexQuery_final m c),
      ((h.1 c).1 20).trans (Cert.ProjIdeal.Value.keyRow_final m c (hg c) (hw c)),
      ((h.1 c).1 23).trans (Cert.ProjIdeal.Value.recInput_final m c),
      ((h.1 c).1 24).trans (Cert.ProjIdeal.Value.recGate_final m c),
      ((h.1 c).1 25).trans (Cert.ProjIdeal.Value.memQuery_final m c (hg c) (hw c)),
      h.2 c⟩

set_option maxHeartbeats 2000000 in
/-- What a run of the reference ends with: the same arrays of its own arguments, and the arguments as they were. -/
theorem reference_run (m : (ℓ : Loc Cert.ProjRefIdeal.nD Cert.ProjRefIdeal.τ Cert.ProjRefIdeal.sig) → Buf (Elt Ideal) ℓ) (ρ : Dev Cert.ProjRefIdeal.nD → PrngReg) :
    θ_run (Cert.ProjRefIdeal.defs (F := Ideal)) (onTc (τ := Cert.ProjRefIdeal.τ) (Cert.ProjRefIdeal.main (F := Ideal))) ⟨m, fun _ => 0, ρ⟩ fun r => ∀ c : Dev Cert.ProjRefIdeal.nD,
      r.2.mem ((c.tc : Thread Cert.ProjRefIdeal.nD Cert.ProjRefIdeal.τ).loc Cert.ProjRefIdeal.main_v74) = Cert.ProjIdeal.Value.keys (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg4))
      ∧ r.2.mem ((c.tc : Thread Cert.ProjRefIdeal.nD Cert.ProjRefIdeal.τ).loc Cert.ProjRefIdeal.main_v75) = Cert.ProjIdeal.Value.values (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2))
      ∧ r.2.mem ((c.tc : Thread Cert.ProjRefIdeal.nD Cert.ProjRefIdeal.τ).loc Cert.ProjRefIdeal.main_v76) = Cert.ProjIdeal.Value.indexKeys (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2))
      ∧ r.2.mem ((c.tc : Thread Cert.ProjRefIdeal.nD Cert.ProjRefIdeal.τ).loc Cert.ProjRefIdeal.main_v79) = Cert.ProjIdeal.Value.indexWeights (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2))
      ∧ r.2.mem ((c.tc : Thread Cert.ProjRefIdeal.nD Cert.ProjRefIdeal.τ).loc Cert.ProjRefIdeal.main_v83) = Cert.ProjIdeal.Value.queries (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3))
      ∧ r.2.mem ((c.tc : Thread Cert.ProjRefIdeal.nD Cert.ProjRefIdeal.τ).loc Cert.ProjRefIdeal.main_v85) = Cert.ProjIdeal.Value.indexQueries (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2))
      ∧ r.2.mem ((c.tc : Thread Cert.ProjRefIdeal.nD Cert.ProjRefIdeal.τ).loc Cert.ProjRefIdeal.main_v86) = Cert.ProjIdeal.Value.keyRows (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg4))
      ∧ r.2.mem ((c.tc : Thread Cert.ProjRefIdeal.nD Cert.ProjRefIdeal.τ).loc Cert.ProjRefIdeal.main_v22) = Cert.ProjIdeal.Value.recInputs (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2))
      ∧ r.2.mem ((c.tc : Thread Cert.ProjRefIdeal.nD Cert.ProjRefIdeal.τ).loc Cert.ProjRefIdeal.main_v23) = Cert.ProjIdeal.Value.recGates (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2))
      ∧ r.2.mem ((c.tc : Thread Cert.ProjRefIdeal.nD Cert.ProjRefIdeal.τ).loc Cert.ProjRefIdeal.main_v87) = Cert.ProjIdeal.Value.memQueries (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg5))
      ∧ r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5) :=
  θ_run_mono (Cert.ProjRefIdeal.Value.run m ρ) fun r h c =>
    ⟨(h c).1.trans ((Cert.ProjRefIdeal.Read.val_main_v74_eq m c).trans (key_result (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg4)))),
      (h c).2.1.trans ((Cert.ProjRefIdeal.Read.val_main_v75_eq (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2))).trans (value_result (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)))),
      (h c).2.2.1.trans ((Cert.ProjRefIdeal.Read.val_main_v76_eq (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2))).trans (indexKey_result (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)))),
      (h c).2.2.2.1.trans ((Cert.ProjRefIdeal.Read.val_main_v79_eq (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2))).trans (indexWeight_result (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)))),
      (h c).2.2.2.2.1.trans ((Cert.ProjRefIdeal.Read.val_main_v83_eq m c).trans (query_result (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)))),
      (h c).2.2.2.2.2.1.trans ((Cert.ProjRefIdeal.Read.val_main_v85_eq (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2))).trans (indexQuery_result (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)))),
      (h c).2.2.2.2.2.2.1.trans ((Cert.ProjRefIdeal.Read.val_main_v86_eq m c).trans (keyRow_result (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg4)))),
      (h c).2.2.2.2.2.2.2.1.trans ((Cert.ProjRefIdeal.Read.val_main_v22_eq (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2))).trans (recInput_result (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)))),
      (h c).2.2.2.2.2.2.2.2.1.trans ((Cert.ProjRefIdeal.Read.val_main_v23_eq (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2))).trans (recGate_result (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)))),
      (h c).2.2.2.2.2.2.2.2.2.1.trans ((Cert.ProjRefIdeal.Read.val_main_v87_eq m c).trans (memQuery_result (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg5)))),
      (h c).2.2.2.2.2.2.2.2.2.2⟩

/-- A function of three equal arguments. -/
theorem same3 {A B C D : Type} (f : A → B → C → D) {a a' : A} {b b' : B} {c c' : C} (ha : a = a') (hb : b = b') (hc : c = c') :
    f a b c = f a' b' c' := by rw [ha, hb, hc]

/-- A function of four equal arguments. -/
theorem same4 {A B C D E : Type} (f : A → B → C → D → E) {a a' : A} {b b' : B} {c c' : C} {d d' : D} (ha : a = a') (hb : b = b') (hc : c = c')
    (hd : d = d') : f a b c d = f a' b' c' d' := by rw [ha, hb, hc, hd]

set_option maxHeartbeats 2000000 in
/-- Where the weights and the gain are numbers, the ten arrays are the reference's. -/
theorem algebraic : Cert.algebraic_ProjIdeal_ProjRefIdeal_pre_finite_projection := by
  intro m g m' g' hpre hagree
  refine ⟨fun c => Cert.ProjIdeal.Value.keys (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg4)),
    fun c => Cert.ProjIdeal.Value.values (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)),
    fun c => Cert.ProjIdeal.Value.indexKeys (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)),
    fun c => Cert.ProjIdeal.Value.indexWeights (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)),
    fun c => Cert.ProjIdeal.Value.queries (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)),
    fun c => Cert.ProjIdeal.Value.indexQueries (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)),
    fun c => Cert.ProjIdeal.Value.keyRows (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg4)),
    fun c => Cert.ProjIdeal.Value.recInputs (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)),
    fun c => Cert.ProjIdeal.Value.recGates (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)),
    fun c => Cert.ProjIdeal.Value.memQueries (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg5)),
    kernel_run m g (fun c l => (real_of_pre _ _ _ _ _ _ (hpre c) l 0).2) (fun c k q => (real_of_pre _ _ _ _ _ _ (hpre c) k q).1), ?_⟩
  exact θ_run_mono (reference_run m' g') fun r h c =>
    ⟨(h c).1.trans (same4 Cert.ProjIdeal.Value.keys (hagree c).1 (hagree c).2.1 (hagree c).2.2.1 (hagree c).2.2.2.2.1),
      (h c).2.1.trans (same3 Cert.ProjIdeal.Value.values (hagree c).1 (hagree c).2.1 (hagree c).2.2.1),
      (h c).2.2.1.trans (same3 Cert.ProjIdeal.Value.indexKeys (hagree c).1 (hagree c).2.1 (hagree c).2.2.1),
      (h c).2.2.2.1.trans (same3 Cert.ProjIdeal.Value.indexWeights (hagree c).1 (hagree c).2.1 (hagree c).2.2.1),
      (h c).2.2.2.2.1.trans (same4 Cert.ProjIdeal.Value.queries (hagree c).1 (hagree c).2.1 (hagree c).2.2.1 (hagree c).2.2.2.1),
      (h c).2.2.2.2.2.1.trans (same3 Cert.ProjIdeal.Value.indexQueries (hagree c).1 (hagree c).2.1 (hagree c).2.2.1),
      (h c).2.2.2.2.2.2.1.trans (same4 Cert.ProjIdeal.Value.keyRows (hagree c).1 (hagree c).2.1 (hagree c).2.2.1 (hagree c).2.2.2.2.1),
      (h c).2.2.2.2.2.2.2.1.trans (same3 Cert.ProjIdeal.Value.recInputs (hagree c).1 (hagree c).2.1 (hagree c).2.2.1),
      (h c).2.2.2.2.2.2.2.2.1.trans (same3 Cert.ProjIdeal.Value.recGates (hagree c).1 (hagree c).2.1 (hagree c).2.2.1),
      (h c).2.2.2.2.2.2.2.2.2.1.trans (same4 Cert.ProjIdeal.Value.memQueries (hagree c).1 (hagree c).2.1 (hagree c).2.2.1 (hagree c).2.2.2.2.2),
      (h c).2.2.2.2.2.2.2.2.2.2⟩

end Cert.ProjClaim

end
-- ==== Proof.References.lean ====
module

public import proofs.«01_k».proof.Defs
public import proofs.«01_k».proof.Proof.Gen.LruRefIdeal
public import proofs.«01_k».proof.Proof.Gen.LruRefIdeal.Run
public import Idealize.ShloMosaic.Lib.Quiescent
public import proofs.«01_k».proof.Proof.Gen.CrossRefIdeal.Run
public import proofs.«01_k».proof.Proof.Gen.FfnRefIdeal.Run
public import proofs.«01_k».proof.Proof.Gen.MemKvRefIdeal.Run
public import proofs.«01_k».proof.Proof.Gen.MergeRefIdeal.Run
public import proofs.«01_k».proof.Proof.Gen.ProjRefIdeal.Run

/-! # The references run

A reference is lines of host operations: it ends with its arguments unchanged and its semaphores at zero. -/

@[expose] public section

set_option maxRecDepth 16384

open Idealize.ShloMosaic Idealize.ShloMosaic.TcCoe Idealize.SL.Sem

namespace Cert.References

theorem cross : Cert.quiescent_CrossRefIdeal := by
  intro m g _
  exact (θ_run Cert.CrossRefIdeal.defs _ _).mono
    (fun r h => ⟨fun c => (h c).2, sem_eq_zero_of_no_sems (by decide) r.2⟩) (Cert.CrossRefIdeal.Value.run m g)

theorem ffn : Cert.quiescent_FfnRefIdeal := by
  intro m g _
  exact (θ_run Cert.FfnRefIdeal.defs _ _).mono
    (fun r h => ⟨fun c => (h c).2, sem_eq_zero_of_no_sems (by decide) r.2⟩) (Cert.FfnRefIdeal.Value.run m g)

theorem merge : Cert.quiescent_MergeRefIdeal := by
  intro m g _
  exact (θ_run Cert.MergeRefIdeal.defs _ _).mono
    (fun r h => ⟨fun c => (h c).2, sem_eq_zero_of_no_sems (by decide) r.2⟩) (Cert.MergeRefIdeal.Value.run m g)

theorem lru : Cert.quiescent_LruRefIdeal := by
  intro m g _
  exact (θ_run Cert.LruRefIdeal.defs _ _).mono
    (fun r h => ⟨fun c => (h c).2.2.2, sem_eq_zero_of_no_sems (by decide) r.2⟩) (Cert.LruRefIdeal.Value.run m g)

theorem memKv : Cert.quiescent_MemKvRefIdeal := by
  intro m g _
  exact (θ_run Cert.MemKvRefIdeal.defs _ _).mono
    (fun r h => ⟨fun c => (h c).2.2, sem_eq_zero_of_no_sems (by decide) r.2⟩) (Cert.MemKvRefIdeal.Value.run m g)

/-- The same from the memories of the precondition. -/
theorem memKv_pre [Cert.Pre_finite_weights.Facts] : Cert.quiescent_MemKvRefIdeal_pre_finite_weights := by
  intro m g _
  exact (θ_run Cert.MemKvRefIdeal.defs _ _).mono
    (fun r h => ⟨fun c => (h c).2.2, sem_eq_zero_of_no_sems (by decide) r.2⟩) (Cert.MemKvRefIdeal.Value.run m g)

theorem proj : Cert.quiescent_ProjRefIdeal := by
  intro m g _
  exact (θ_run Cert.ProjRefIdeal.defs _ _).mono
    (fun r h => ⟨fun c => (h c).2.2.2.2.2.2.2.2.2.2, sem_eq_zero_of_no_sems (by decide) r.2⟩) (Cert.ProjRefIdeal.Value.run m g)

/-- The same from the memories of the precondition. -/
theorem proj_pre [Cert.Pre_finite_projection.Facts] : Cert.quiescent_ProjRefIdeal_pre_finite_projection := by
  intro m g _
  exact (θ_run Cert.ProjRefIdeal.defs _ _).mono
    (fun r h => ⟨fun c => (h c).2.2.2.2.2.2.2.2.2.2, sem_eq_zero_of_no_sems (by decide) r.2⟩) (Cert.ProjRefIdeal.Value.run m g)

end Cert.References

end
-- ==== Proof.CrossSpec.lean ====
/-
  The cross-attention of the prompt into the memory tokens as a formula: four heads of width 128, each a softmax
  over the 256 memory tokens of the scaled products of the query row with the memory keys.
-/
module

public import proofs.«01_k».proof.Proof.Base

@[expose] public section

set_option maxRecDepth 16384

noncomputable section

open Idealize.ShloMosaic Idealize.ShloMosaic.TcCoe Idealize.SL.Sem

namespace Cert.Layer

/-- The scaled score of a query row against a key row of one head. -/
def score (q k : Fin 128 → EReal) : EReal := (∑ e, q e * k e) * Ideal.ofBits .f32 0x3DB504F3#32

/-- The largest of 256 scores. -/
def top (s : Fin 256 → EReal) : EReal := Finset.univ.fold max (Ideal.ofBits .f32 0xFF800000#32) s

/-- The softmax weight of token `j`. -/
def weight (s : Fin 256 → EReal) (j : Fin 256) : EReal :=
  Ideal.div (Ideal.exp (s j - top s)) (∑ i, Ideal.exp (s i - top s))

/-- The sum of the values `v` under the softmax weights of the scores `s`. -/
def softDot (s v : Fin 256 → EReal) : EReal := ∑ j, weight s j * v j

/-- One head: batch entry `b`, row `r`, the head's first column `o`, the column `d` within the head. -/
def headAt {B T : Nat} (q : (⟨3, ![B, T, 512]⟩ : Shape).Idx → EReal) (mk mv : (⟨3, ![B, 256, 512]⟩ : Shape).Idx → EReal)
    (b : Fin B) (r : Fin T) (o : Nat) (ho : o + 128 ≤ 512) (d : Fin 128) : EReal :=
  softDot (fun j => score (fun e => q (ix3 b r ⟨o + e.val, by omega⟩)) fun e => mk (ix3 b j ⟨o + e.val, by omega⟩))
    fun j => mv (ix3 b j ⟨o + d.val, by omega⟩)

/-- The attention at a row and a column. -/
def crossAt {B T : Nat} (q : (⟨3, ![B, T, 512]⟩ : Shape).Idx → EReal) (mk mv : (⟨3, ![B, 256, 512]⟩ : Shape).Idx → EReal)
    (b : Fin B) (r : Fin T) (c : Fin 512) : EReal :=
  headAt q mk mv b r (c.val / 128 * 128) (by omega) ⟨c.val % 128, by omega⟩

/-- Column `d` of the head that starts at column `o` is column `o + d` of the attention. -/
theorem headAt_eq {B T : Nat} (q : (⟨3, ![B, T, 512]⟩ : Shape).Idx → EReal) (mk mv : (⟨3, ![B, 256, 512]⟩ : Shape).Idx → EReal)
    (b : Fin B) (r : Fin T) (o : Nat) (ho : o + 128 ≤ 512) (d : Fin 128) (h : o % 128 = 0) (c : Fin 512) (hc : c.val = o + d.val) :
    headAt q mk mv b r o ho d = crossAt q mk mv b r c := by
  unfold crossAt
  obtain rfl : o = c.val / 128 * 128 := by omega
  exact congrArg (headAt q mk mv b r _ _) (Fin.ext (by show d.val = c.val % 128; omega))

/-- The largest score is at least the word the maximum starts from. -/
theorem max_top (s : Fin 256 → EReal) : max (Ideal.ofBits .f32 0xFF800000#32) (top s) = top s :=
  max_eq_right ((Finset.le_fold_max _).mpr (Or.inl le_rfl))

end Cert.Layer

end
-- ==== Proof.CrossBody.lean ====
/-
  What one grid point of the cross-attention kernel stores: its 512 rows, one store per head.
-/
module

public import proofs.«01_k».proof.Proof.CrossSpec
public import proofs.«01_k».proof.Proof.Gen.CrossIdeal.Frame

@[expose] public section

set_option maxRecDepth 16384

noncomputable section

open Idealize.ShloMosaic Idealize.ShloMosaic.TcCoe Idealize.SL.Sem

namespace Cert.CrossIdeal.Body
open Cert.CrossIdeal Cert.CrossIdeal.Gen Cert.Layer

variable (q : FVec Ideal S1x512x512 .bf16) (k v : FVec Ideal S1x256x512 .f32)

/-- The first head's store. -/
theorem head_first (r : Fin 512) (d : Fin 128) :
    k0_pay5 (F := Ideal) q k v (ix3 0 r d)
    = softDot (fun j => score (fun e => q (ix3 0 r ⟨e.val, by omega⟩)) fun e => k (ix3 0 j ⟨e.val, by omega⟩)) fun j => v (ix3 0 j ⟨d.val, by omega⟩) := by
  pointwise [k0_pay5, k0_pay2, k0_pay3, k0_pay4, softDot, weight, top, score]

/-- The second head's store. -/
theorem head_second (r : Fin 512) (d : Fin 128) :
    k0_pay8 (F := Ideal) (k0_pay4 v) (k0_pay6 q k) (k0_pay7 q k) (ix3 0 r d) = headAt q k v 0 r 128 (by omega) d := by
  pointwise [k0_pay8, k0_pay2, k0_pay3, k0_pay4, k0_pay6, k0_pay7, headAt, softDot, weight, top, score]

/-- The third head's store. -/
theorem head_third (r : Fin 512) (d : Fin 128) :
    k0_pay9 (F := Ideal) (k0_pay2 q) (k0_pay3 k) (k0_pay4 v) (ix3 0 r d) = headAt q k v 0 r 256 (by omega) d := by
  pointwise [k0_pay9, k0_pay2, k0_pay3, k0_pay4, headAt, softDot, weight, top, score]

/-- The fourth head's store. -/
theorem head_fourth (r : Fin 512) (d : Fin 128) :
    k0_pay1 (F := Ideal) (k0_pay4 v) (k0_pay10 (k0_pay2 q) (k0_pay3 k)) (k0_pay11 (k0_pay2 q) (k0_pay3 k)) (ix3 0 r d)
    = headAt q k v 0 r 384 (by omega) d := by
  pointwise [k0_pay1, k0_pay2, k0_pay3, k0_pay4, k0_pay10, k0_pay11, headAt, softDot, weight, top, score]

/-- The queries the body keeps are its first block's. -/
theorem kept_q : k0_pay12 (F := Ideal) q k v = k0_pay2 (F := Ideal) q := by
  unfold k0_pay12
  rw [View.ld_unit_zero] <;> (first | rfl | (funext a; fin_cases a <;> rfl))

/-- The keys the body keeps. -/
theorem kept_k : k0_pay13 (F := Ideal) q k v = k0_pay3 (F := Ideal) k := by
  unfold k0_pay13
  rw [View.ld_unit_zero] <;> (first | rfl | (funext a; fin_cases a <;> rfl))

/-- The values the body keeps. -/
theorem kept_v : k0_pay14 (F := Ideal) q k v = k0_pay4 (F := Ideal) v := by
  unfold k0_pay14
  rw [View.ld_unit_zero] <;> (first | rfl | (funext a; fin_cases a <;> rfl))

/-- The second head's store over the loaded blocks is the one over the blocks. -/
theorem loaded_second : k0_pay8 (F := Ideal) (k0_pay4 v) (k0_pay6 (View.ld q r0_0) (View.ld k r0_1)) (k0_pay7 (View.ld q r0_0) (View.ld k r0_1))
    = k0_pay8 (F := Ideal) (k0_pay4 v) (k0_pay6 q k) (k0_pay7 q k) := by
  rw [View.ld_unit_zero, View.ld_unit_zero] <;> (first | rfl | (funext a; fin_cases a <;> rfl))

/-- The first head's store over the loaded blocks is the one over the blocks. -/
theorem loaded_first : k0_pay5 (F := Ideal) (View.ld q r0_0) (View.ld k r0_1) (View.ld v r0_1) = k0_pay5 (F := Ideal) q k v := by
  rw [View.ld_unit_zero, View.ld_unit_zero, View.ld_unit_zero] <;> (first | rfl | (funext a; fin_cases a <;> rfl))

/-- A store of the head that starts at column `o`, read where the block's row and column are `y 1` and `y 2`. -/
theorem piece (f : FVec Ideal S1x512x128 .bf16) (o : Nat) (ho : o + 128 ≤ 512) (hm : o % 128 = 0)
    (h : ∀ r d, f (ix3 0 r d) = headAt q k v 0 r o ho d) (x : S1x512x128.Idx) (y : S1x512x512.Idx)
    (h1 : (y 1).val = (x 1).val) (h2 : (y 2).val = o + (x 2).val) : f x = crossAt q k v 0 (y 1) (y 2) := by
  have hx : x = ix3 0 (x 1) (x 2) := (eq_ix3 x).trans (congrArg (fun a => ix3 a (x 1) (x 2)) (Subsingleton.elim _ _))
  refine (congrArg f hx).trans ((h _ _).trans ?_)
  refine (headAt_eq q k v 0 _ o ho _ hm (y 2) h2).trans ?_
  exact congrArg (fun r => crossAt q k v 0 r (y 2)) (Fin.ext h1.symm)

/-- The whole block stored at a grid point. -/
theorem out_at (y : S1x512x512.Idx) :
    out0_3 (F := Ideal) q k v y = crossAt q k v 0 (y 1) (y 2) := by
  unfold out0_3
  rw [kept_q, kept_k, kept_v, loaded_first, loaded_second]
  canon_tiles x h
  · exact piece q k v _ 384 (by omega) rfl (head_fourth q k v) x y h1 h2
  · exact piece q k v _ 256 (by omega) rfl (head_third q k v) x y h1 h2
  · exact piece q k v _ 128 (by omega) rfl (head_second q k v) x y h1 h2
  · exact piece q k v _ 0 (by omega) rfl (fun r d => (head_first q k v r d).trans (by
      unfold headAt; simp only [Nat.zero_add])) x y h1 (by omega)

end Cert.CrossIdeal.Body

end
-- ==== Proof.CrossValue.lean ====
/-
  The array the cross-attention kernel returns: at every batch entry, row and column it is the attention there.
-/
module

public import proofs.«01_k».proof.Proof.CrossBody
public import proofs.«01_k».proof.Proof.Gen.CrossIdeal.Value

@[expose] public section

set_option maxRecDepth 16384

noncomputable section

open Idealize.ShloMosaic Idealize.ShloMosaic.TcCoe Idealize.SL.Sem
open Idealize.ShloMosaic.Pipeline (Dat)

namespace Cert.CrossIdeal.Value
open Cert.CrossIdeal Cert.CrossIdeal.Gen Cert.Layer Cert.CrossIdeal.Body

variable (m : (ℓ : Loc nD τ sig) → Buf (Elt Ideal) ℓ)

/-- Where each window's block sits at a grid point. -/
theorem idx : ∀ t : Fin cfg0.N, win0_0.index t = ![t.val / 16, t.val % 16, 0] ∧ win0_1.index t = ![t.val / 16, 0, 0]
    ∧ win0_2.index t = ![t.val / 16, 0, 0] ∧ win0_3.index t = ![t.val / 16, t.val % 16, 0] ∧ t.val < 64 :=
  (by decide +kernel : ∀ t : Fin grid0.N, _)

/-- The attention of every row, as one array. -/
def result (q : FVec Ideal S4x8192x512 .bf16) (mk mv : FVec Ideal S4x256x512 .f32) : FVec Ideal S4x8192x512 .bf16 :=
  fun i => crossAt q mk mv (i 0) (i 1) (i 2)

/-- What a grid point stores at a row and a column of its block. -/
theorem point (c : Dev nD) (t : Fin cfg0.N) (r : Fin 512) (d : Fin 512) (h : t.val / 16 < 4) (h' : t.val % 16 * 512 + r.val < 8192) :
    crossAt (iblk m c 0 t) (iblk m c 1 t) (iblk m c 2 t) 0 r d
    = crossAt (m ((c : Thread nD τ).loc main_arg0)) (m ((c : Thread nD τ).loc main_arg1)) (m ((c : Thread nD τ).loc main_arg2))
      ⟨t.val / 16, h⟩ ⟨t.val % 16 * 512 + r.val, h'⟩ d := by
  have b0 : ∀ l : Fin 512, iblk m c 0 t (ix3 0 r l) = m ((c : Thread nD τ).loc main_arg0) (ix3 ⟨t.val / 16, h⟩ ⟨t.val % 16 * 512 + r.val, h'⟩ l) := fun l => by
    refine Eq.trans ?_ (congrFun (V_main_arg0 m c) (ix3 ⟨t.val / 16, h⟩ ⟨t.val % 16 * 512 + r.val, h'⟩ l)); blk_ext [iblk, idx t]
  have b1 : ∀ (j : Fin 256) (l : Fin 512), iblk m c 1 t (ix3 0 j l) = m ((c : Thread nD τ).loc main_arg1) (ix3 ⟨t.val / 16, h⟩ j l) := fun j l => by
    refine Eq.trans ?_ (congrFun (V_main_arg1 m c) (ix3 ⟨t.val / 16, h⟩ j l)); blk_ext [iblk, idx t]
  have b2 : ∀ (j : Fin 256) (l : Fin 512), iblk m c 2 t (ix3 0 j l) = m ((c : Thread nD τ).loc main_arg2) (ix3 ⟨t.val / 16, h⟩ j l) := fun j l => by
    refine Eq.trans ?_ (congrFun (V_main_arg2 m c) (ix3 ⟨t.val / 16, h⟩ j l)); blk_ext [iblk, idx t]
  unfold crossAt headAt
  simp only [b0, b1, b2]

/-- The same at an index of the block, against the array. -/
theorem point_idx (c : Dev nD) (t : Fin cfg0.N) (y : S1x512x512.Idx) :
    out0_3 (F := Ideal) (iblk m c 0 t) (iblk m c 1 t) (iblk m c 2 t) y
    = result (m ((c : Thread nD τ).loc main_arg0)) (m ((c : Thread nD τ).loc main_arg1)) (m ((c : Thread nD τ).loc main_arg2)) (((cfg0.win 3).blk t).view.emb y) := by
  have ht := (idx t).2.2.2.2
  refine (out_at (iblk m c 0 t) (iblk m c 1 t) (iblk m c 2 t) y).trans ?_
  have hy : (y 1).val < 512 := (y 1).isLt
  refine (point m c t (y 1) (y 2) (by omega) (by omega)).trans ?_
  unfold result
  refine congr (congrArg₂ (crossAt _ _ _) (Fin.ext ?_) (Fin.ext ?_)) (Fin.ext ?_) <;> blk_simp [idx t] <;> try omega

/-- The array after the run. -/
theorem final (c : Dev nD) : (dats m 0 c).arrAt 3 (cfgs 0).N
    = result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point_idx m c t y

end Cert.CrossIdeal.Value

end
-- ==== Proof.CrossRef.lean ====
/-
  The reference of the cross-attention: its composed term, read stage by stage, is the attention of that row.
-/
module

public import proofs.«01_k».proof.Proof.CrossSpec
public import proofs.«01_k».proof.Proof.Gen.CrossRefIdeal.Read

@[expose] public section

set_option maxRecDepth 16384

noncomputable section

open Idealize.ShloMosaic Idealize.ShloMosaic.TcCoe Idealize.SL.Sem

namespace Cert.CrossRefIdeal.At
open Cert.CrossRefIdeal Cert.CrossRefIdeal.Gen Cert.CrossRefIdeal.Read Cert.Layer

variable (q : FVec Ideal S4x8192x512 .bf16) (mk mv : FVec Ideal S4x256x512 .f32)

/-- The score of row `r` of head `h` against token `j`. -/
def rowScore (b : Fin 4) (r : Fin 8192) (h : Fin 4) (j : Fin 256) : EReal :=
  score (fun e => q (ix3 b r ⟨h.val * 128 + e.val, by omega⟩)) fun e => mk (ix3 b j ⟨h.val * 128 + e.val, by omega⟩)

/-- The queries, a head apart. -/
theorem query_at (b : Fin 4) (r : Fin 8192) (h : Fin 4) (e : Fin 128) :
    val_main_v1 (F := Ideal) q (ix4 b r h e) = q (ix3 b r ⟨h.val * 128 + e.val, by omega⟩) := by
  refine (val_main_v1_apply (F := Ideal) q _).trans ?_
  rw [val_main_v0_apply]
  refine congrArg q (funext fun a => ?_)
  fin_cases a <;> refine Fin.ext ?_
  · show (((b.val * 8192 + r.val) * 4 + h.val) * 128 + e.val) / 4194304 = b.val
    omega
  · show (((b.val * 8192 + r.val) * 4 + h.val) * 128 + e.val) / 512 % 8192 = r.val
    omega
  · show (((b.val * 8192 + r.val) * 4 + h.val) * 128 + e.val) % 512 = h.val * 128 + e.val
    omega

/-- The keys, a head apart. -/
theorem key_at (b : Fin 4) (j : Fin 256) (h : Fin 4) (e : Fin 128) :
    val_main_v2 (F := Ideal) mk (ix4 b j h e) = mk (ix3 b j ⟨h.val * 128 + e.val, by omega⟩) := by
  refine (val_main_v2_apply (F := Ideal) mk _).trans (congrArg mk (funext fun a => ?_))
  fin_cases a <;> refine Fin.ext ?_
  · show (((b.val * 256 + j.val) * 4 + h.val) * 128 + e.val) / 131072 = b.val
    omega
  · show (((b.val * 256 + j.val) * 4 + h.val) * 128 + e.val) / 512 % 256 = j.val
    omega
  · show (((b.val * 256 + j.val) * 4 + h.val) * 128 + e.val) % 512 = h.val * 128 + e.val
    omega

/-- The values, a head apart. -/
theorem value_at (b : Fin 4) (j : Fin 256) (h : Fin 4) (e : Fin 128) :
    val_main_v18 (F := Ideal) mv (ix4 b j h e) = mv (ix3 b j ⟨h.val * 128 + e.val, by omega⟩) :=
  key_at mv b j h e

/-- The products of keys and queries, summed over a head's lanes. -/
theorem products_at (b h : Fin 4) (j : Fin 256) (r : Fin 8192) :
    val_main_v3 (F := Ideal) q mk (ix4 b h j r)
      = ∑ e : Fin 128, mk (ix3 b j ⟨h.val * 128 + e.val, by omega⟩) * q (ix3 b r ⟨h.val * 128 + e.val, by omega⟩) := by
  refine (val_main_v3_apply q mk _).trans (Finset.sum_congr rfl fun e _ => ?_)
  have hl : lidx_main_v3 (ix4 b h j r) e = ix4 b j h e := by
    funext a
    fin_cases a <;> rfl
  have hr : ridx_main_v3 (ix4 b h j r) e = ix4 b r h e := by
    funext a
    fin_cases a <;> rfl
  rw [hl, hr, key_at, query_at]

theorem scores_at (b : Fin 4) (r : Fin 8192) (h : Fin 4) (j : Fin 256) :
    val_main_v6 (F := Ideal) q mk (ix4 b r h j) = rowScore q mk b r h j := by
  have ht : idx_main_v4 (ix4 b r h j) = ix4 b h j r := by
    funext a
    fin_cases a <;> rfl
  rw [val_main_v6_apply, val_main_v4_apply, val_main_v5_apply, val_main_cst_apply, ht, products_at]
  exact congrArg (· * _) (Finset.sum_congr rfl fun e _ => mul_comm _ _)

/-- A maximum over the last axis. -/
theorem fold_at (y : FVec Ideal S4x8192x4x256 .f32) (b : Fin 4) (r : Fin 8192) (h : Fin 4) :
    Host.reduce FloatOps.maximumf y (constant S_ .f32 0xFF800000#32 : FVec Ideal S_ .f32) reducesTo_S4x8192x4x256_S4x8192x4_d3 h_S_ (ix3 b r h)
      = top fun j => y (ix4 b r h j) := by
  pointwise [top]

theorem top_at (b : Fin 4) (r : Fin 8192) (h : Fin 4) :
    val_main_v9 (F := Ideal) q mk (ix3 b r h) = top (rowScore q mk b r h) := by
  rw [val_main_v9_apply, val_main_v8_apply, val_main_cst_1_apply]
  have h7 : val_main_v7 (F := Ideal) q mk (ix3 b r h) = top (rowScore q mk b r h) :=
    (fold_at _ b r h).trans (congrArg top (funext fun j => scores_at q mk b r h j))
  rw [h7]
  exact max_top _

theorem exps_at (b : Fin 4) (r : Fin 8192) (h : Fin 4) (j : Fin 256) :
    val_main_v13 (F := Ideal) q mk (ix4 b r h j) = Ideal.exp (rowScore q mk b r h j - top (rowScore q mk b r h)) := by
  pointwise [val_main_v10, val_main_v11, val_main_v12, val_main_v13, scores_at, top_at]

theorem weights_at (b : Fin 4) (r : Fin 8192) (h : Fin 4) (j : Fin 256) :
    val_main_v17 (F := Ideal) q mk (ix4 b r h j) = weight (rowScore q mk b r h) j := by
  pointwise [val_main_cst_2, val_main_v14, val_main_v15, val_main_v16, val_main_v17, exps_at, weight]

theorem heads_at (b : Fin 4) (r : Fin 8192) (h : Fin 4) (d : Fin 128) :
    val_main_v20 (F := Ideal) q mk mv (ix4 b r h d) = headAt q mk mv b r (h.val * 128) (by omega) d := by
  have ht : idx_main_v20 (ix4 b r h d) = ix4 b h d r := by
    funext a
    fin_cases a <;> rfl
  rw [val_main_v20_apply, ht]
  unfold headAt softDot
  refine (val_main_v19_apply q mk mv _).trans (Finset.sum_congr rfl fun e _ => ?_)
  have hl : lidx_main_v19 (ix4 b h d r) e = ix4 b e h d := by
    funext a
    fin_cases a <;> rfl
  have hr : ridx_main_v19 (ix4 b h d r) e = ix4 b r h e := by
    funext a
    fin_cases a <;> rfl
  rw [hl, hr, value_at, weights_at]
  exact mul_comm _ _

/-- The reference's result at a batch entry, a row and a column. -/
theorem result_at (b : Fin 4) (r : Fin 8192) (c : Fin 512) :
    val_main_v22 (F := Ideal) q mk mv (ix3 b r c) = crossAt q mk mv b r c := by
  pointwise [val_main_v22]
  refine (val_main_v21_apply (F := Ideal) q mk mv _).trans ?_
  have h : idx_main_v21 (ix3 b r c) = ix4 b r ⟨c.val / 128, by omega⟩ ⟨c.val % 128, by omega⟩ := by
    funext a
    fin_cases a <;> refine Fin.ext ?_
    · show ((b.val * 8192 + r.val) * 512 + c.val) / 4194304 = b.val
      omega
    · show ((b.val * 8192 + r.val) * 512 + c.val) / 512 % 8192 = r.val
      omega
    · show ((b.val * 8192 + r.val) * 512 + c.val) / 128 % 4 = c.val / 128
      omega
    · show ((b.val * 8192 + r.val) * 512 + c.val) % 128 = c.val % 128
      omega
  rw [h, heads_at, crossAt]

end Cert.CrossRefIdeal.At

end
-- ==== Proof.CrossClaim.lean ====
/-
  The value claim of the cross-attention kernel: run from the same arguments, the kernel and its reference return
  the same array.
-/
module

public import proofs.«01_k».proof.Defs
public import proofs.«01_k».proof.Proof.Gen.Cross
public import proofs.«01_k».proof.Proof.CrossValue
public import proofs.«01_k».proof.Proof.CrossRef
public import proofs.«01_k».proof.Proof.Gen.CrossRefIdeal.Run

@[expose] public section

set_option maxRecDepth 16384

noncomputable section

open Idealize.ShloMosaic Idealize.ShloMosaic.TcCoe Idealize.SL.Sem

namespace Cert.CrossClaim

/-- The reference's array is the one the kernel returns. -/
theorem reference_result (q : FVec Ideal Cert.CrossRefIdeal.S4x8192x512 .bf16) (mk mv : FVec Ideal Cert.CrossRefIdeal.S4x256x512 .f32) :
    Cert.CrossRefIdeal.Read.val_main_v22 (F := Ideal) q mk mv = Cert.CrossIdeal.Value.result q mk mv := by
  funext i
  idx_vars i
  exact Cert.CrossRefIdeal.At.result_at q mk mv _ _ _

theorem algebraic : Cert.algebraic_CrossIdeal_CrossRefIdeal := by
  pair_intro
  · run_from Cert.CrossIdeal.Gen.run_main m g
  · run_from Cert.CrossRefIdeal.Value.run m' g'
    refine (Cert.CrossRefIdeal.Read.val_main_v22_eq _ _ _).trans ?_
    exact (reference_result _ _ _).trans (Cert.CrossIdeal.Value.final m c).symm

end Cert.CrossClaim

end
-- ==== Proof.FfnBody.lean ====
/-
  What one grid point of the feed-forward kernel stores: its 512 rows, the hidden columns taken in eleven
  chunks of 256.
-/
module

public import proofs.«01_k».proof.Proof.Base
public import proofs.«01_k».proof.Proof.Gen.FfnIdeal.Frame

@[expose] public section

set_option maxRecDepth 16384

noncomputable section

open Idealize.ShloMosaic Idealize.ShloMosaic.TcCoe Idealize.SL.Sem

namespace Cert.FfnIdeal.Body
open Cert.FfnIdeal Cert.FfnIdeal.Gen Cert.Layer

/-- One chunk of 256 hidden columns: gate, up, and the chunk's contribution to the output rows. -/
def chunk (hn : FVec Ideal S512x1024 .bf16) (wg wu : FVec Ideal S1x1024x256 .bf16) (wo : FVec Ideal S1x256x1024 .bf16) : FVec Ideal S512x1024 .f32 :=
  matmul dot_S512x256_S256x1024_S512x1024_1_0_0_1_n_n none
    (truncf .bf16 (mulf (mulf
      (matmul dot_S512x1024_S1024x256_S512x256_1_0_0_1_n_n none hn (shapeCast S1024x256 wg shapeCasts_S1x1024x256_S1024x256) (constant S512x256 .f32 0x00000000#32))
      (logistic (matmul dot_S512x1024_S1024x256_S512x256_1_0_0_1_n_n none hn (shapeCast S1024x256 wg shapeCasts_S1x1024x256_S1024x256) (constant S512x256 .f32 0x00000000#32))))
      (matmul dot_S512x1024_S1024x256_S512x256_1_0_0_1_n_n none hn (shapeCast S1024x256 wu shapeCasts_S1x1024x256_S1024x256) (constant S512x256 .f32 0x00000000#32))) bitsLt_bf16_f32)
    (shapeCast S256x1024 wo shapeCasts_S1x256x1024_S256x1024) (constant S512x1024 .f32 0x00000000#32)

/-- The chunk read at a row and an output column. -/
theorem chunk_at (hn : FVec Ideal S512x1024 .bf16) (wg wu : FVec Ideal S1x1024x256 .bf16) (wo : FVec Ideal S1x256x1024 .bf16) (r : Fin 512) (q : Fin 1024) :
    chunk hn wg wu wo (ix2 r q) = ∑ j : Fin 256, gated (rowDot (fun k => hn (ix2 r k)) fun k => wg (ix3 0 k j))
      (rowDot (fun k => hn (ix2 r k)) fun k => wu (ix3 0 k j)) * wo (ix3 0 j q) := by
  pointwise [chunk, gated, rowDot]

/-- The normalised rows read at a row and a column. -/
theorem normed_at (x : FVec Ideal S512x1024 .f32) (g : FVec Ideal S1x1024 .f32) (r : Fin 512) (k : Fin 1024) :
    k0_pay3 (F := Ideal) x g (ix2 r k) = rmsRow (fun l => x (ix2 r l)) (fun l => g (ix2 0 l)) k := by
  pointwise [k0_pay3, k0_pay2, rmsRow]

/-- The stored block: the input rows plus half the sum of the eleven chunks. -/
theorem stored (x : FVec Ideal S512x1024 .f32) (hn : FVec Ideal S512x1024 .bf16) (g : FVec Ideal S1x1024 .f32) (hh : hn = k0_pay3 (F := Ideal) x g)
    (a0 a1 a2 a3 a4 a5 a6 a7 a8 a9 a10 b0 b1 b2 b3 b4 b5 b6 b7 b8 b9 b10 : FVec Ideal S1x1024x256 .bf16)
    (w0 w1 w2 w3 w4 w5 w6 w7 w8 w9 w10 : FVec Ideal S1x256x1024 .bf16) :
    k0_pay1 (F := Ideal) (k0_pay2 x) hn (k0_pay15 hn (k0_pay13 hn (k0_pay10 hn (k0_pay6 hn (k0_pay4 x g a0 b0 w0)
      (k0_pay5 x g a1) b1 w1 a2 b2 w2) (k0_pay7 hn a3) (k0_pay8 hn b3) (k0_pay9 hn a3) w3 a4 b4 w4)
      (k0_pay11 hn a5 b5) (k0_pay12 w5) a6 b6 w6 a7 b7 w7) (k0_pay14 a8) b8 w8 a9 b9 w9) (k0_pay16 hn a10) (k0_pay17 b10) (constant S512x256 .f32 0x00000000#32) w10
    = addf (shapeCast S512x1024 x shapeCasts_S512x1024_S512x1024) (mulf (broadcast S512x1024 (Scalar.ofBits .f32 0x3F000000#32))
      (addf (addf (addf (addf (addf (addf (addf (addf (addf (addf (addf (broadcast S512x1024 (Scalar.ofBits .f32 0x00000000#32))
        (chunk hn a0 b0 w0)) (chunk hn a1 b1 w1)) (chunk hn a2 b2 w2)) (chunk hn a3 b3 w3)) (chunk hn a4 b4 w4)) (chunk hn a5 b5 w5))
        (chunk hn a6 b6 w6)) (chunk hn a7 b7 w7)) (chunk hn a8 b8 w8)) (chunk hn a9 b9 w9)) (chunk hn a10 b10 w10))) := by
  subst hh; rfl

/-- A sum of eleven terms, written out. -/
theorem sum_eleven (f : Fin 11 → EReal) :
    ∑ c, f c = 0 + f 0 + f 1 + f 2 + f 3 + f 4 + f 5 + f 6 + f 7 + f 8 + f 9 + f 10 := by
  simp only [Fin.sum_univ_castSucc, Fin.sum_univ_zero]; rfl

/-- The normalised rows the body keeps are the payload of the first two blocks. -/
theorem kept_rows (x0 : FVec Ideal S512x1024 .f32) (x1 : FVec Ideal S1x1024 .f32) (x2 x3 : FVec Ideal S11x1024x256 .bf16) (x4 : FVec Ideal S11x256x1024 .bf16) :
    k0_pay18 (F := Ideal) x0 x1 x2 x3 x4 = k0_pay3 (F := Ideal) x0 x1 := by
  unfold k0_pay18
  rw [View.ld_unit_zero, View.ld_unit_zero] <;> (first | rfl | (funext a; fin_cases a <;> rfl))

/-- The whole block stored at a grid point, read at a row and a column. -/
theorem out_at (x0 : FVec Ideal S512x1024 .f32) (x1 : FVec Ideal S1x1024 .f32) (x2 x3 : FVec Ideal S11x1024x256 .bf16) (x4 : FVec Ideal S11x256x1024 .bf16) (r : Fin 512) (q : Fin 1024) :
    out0_5 (F := Ideal) x0 x1 x2 x3 x4 (ix2 r q) = x0 (ix2 r q) + Ideal.ofBits .f32 0x3F000000#32 * ∑ c : Fin 11, ∑ j : Fin 256,
      gated (rowDot (rmsRow (fun l => x0 (ix2 r l)) fun l => x1 (ix2 0 l)) fun k => x2 (ix3 c k j))
        (rowDot (rmsRow (fun l => x0 (ix2 r l)) fun l => x1 (ix2 0 l)) fun k => x3 (ix3 c k j)) * x4 (ix3 c j q) := by
  rw [sum_eleven]
  unfold out0_5
  frame_out
  rw [stored x0 _ x1 (kept_rows x0 x1 x2 x3 x4), kept_rows]
  pointwise [chunk_at, normed_at, r0_2, r0_3, r0_4, r0_5, r0_6, r0_7, r0_8, r0_9, r0_10, r0_11, r0_12, r0_13, r0_14, r0_15, r0_16, r0_17, r0_18, r0_19, r0_20, r0_21, r0_22, r0_23]

end Cert.FfnIdeal.Body

end
-- ==== Proof.FfnSpec.lean ====
/-
  The feed-forward half step as a formula: at row `r` and column `q`,
  `x + ½ · ∑ⱼ gate · logistic(gate) · up · w_out`, gate and up the products of the normalised row with two
  columns of the input weights.
-/
module

public import proofs.«01_k».proof.Proof.Base

@[expose] public section

set_option maxRecDepth 16384

noncomputable section

open Idealize.ShloMosaic Idealize.ShloMosaic.TcCoe Idealize.SL.Sem

namespace Cert.Layer

/-- Row `r` of the batch of sequences laid end to end. -/
def tokenRow (x : (⟨3, ![4, 8192, 1024]⟩ : Shape).Idx → EReal) (r : Fin 32768) (l : Fin 1024) : EReal :=
  x (ix3 ⟨r.val / 8192, by omega⟩ ⟨r.val % 8192, by omega⟩ l)

/-- The hidden unit `j` of row `r`. -/
def hiddenUnit (x : (⟨3, ![4, 8192, 1024]⟩ : Shape).Idx → EReal) (g : (⟨2, ![1, 1024]⟩ : Shape).Idx → EReal)
    (wi : (⟨3, ![1, 1024, 5632]⟩ : Shape).Idx → EReal) (r : Fin 32768) (j : Fin 2816) : EReal :=
  gated (rowDot (rmsRow (tokenRow x r) fun l => g (ix2 0 l)) fun k => wi (ix3 0 k ⟨j.val, by omega⟩))
    (rowDot (rmsRow (tokenRow x r) fun l => g (ix2 0 l)) fun k => wi (ix3 0 k ⟨2816 + j.val, by omega⟩))

/-- The feed-forward half step at a row and a column. -/
def ffnAt (x : (⟨3, ![4, 8192, 1024]⟩ : Shape).Idx → EReal) (g : (⟨2, ![1, 1024]⟩ : Shape).Idx → EReal)
    (wi : (⟨3, ![1, 1024, 5632]⟩ : Shape).Idx → EReal) (wo : (⟨3, ![1, 2816, 1024]⟩ : Shape).Idx → EReal)
    (r : Fin 32768) (q : Fin 1024) : EReal :=
  tokenRow x r q + Ideal.ofBits .f32 0x3F000000#32 * ∑ j : Fin 2816, hiddenUnit x g wi r j * wo (ix3 0 j q)

/-- The same with the hidden units taken in eleven chunks of 256. -/
theorem ffnAt_chunks (x : (⟨3, ![4, 8192, 1024]⟩ : Shape).Idx → EReal) (g : (⟨2, ![1, 1024]⟩ : Shape).Idx → EReal)
    (wi : (⟨3, ![1, 1024, 5632]⟩ : Shape).Idx → EReal) (wo : (⟨3, ![1, 2816, 1024]⟩ : Shape).Idx → EReal)
    (r : Fin 32768) (q : Fin 1024) :
    ffnAt x g wi wo r q = tokenRow x r q + Ideal.ofBits .f32 0x3F000000#32 * ∑ c : Fin 11, ∑ j : Fin 256,
      hiddenUnit x g wi r ⟨c.val * 256 + j.val, by omega⟩ * wo (ix3 0 ⟨c.val * 256 + j.val, by omega⟩ q) := by
  unfold ffnAt
  rw [Fin.sum_univ_tiles 11 256 rfl (fun j : Fin 2816 => hiddenUnit x g wi r j * wo (ix3 0 j q))]

end Cert.Layer

end
-- ==== Proof.FfnEntry.lean ====
/-
  What the feed-forward kernel reads: the host's slices, reshapes and transposes of the arguments, entry by entry.
-/
module

public import proofs.«01_k».proof.Proof.FfnSpec
public import proofs.«01_k».proof.Proof.Gen.FfnIdeal.Value

@[expose] public section

set_option maxRecDepth 16384

noncomputable section

open Idealize.ShloMosaic Idealize.ShloMosaic.TcCoe Idealize.SL.Sem
open Idealize.ShloMosaic.Pipeline (Dat)

namespace Cert.FfnIdeal.Value
open Cert.FfnIdeal Cert.FfnIdeal.Gen Cert.Layer

variable (m : (ℓ : Loc nD τ sig) → Buf (Elt Ideal) ℓ)

/-- The rows the kernel reads are the sequences laid end to end. -/
theorem rows_in (c : Dev nD) (r : Fin 32768) (l : Fin 1024) :
    V m c main_v0 (ix2 r l) = tokenRow (m ((c : Thread nD τ).loc main_arg0)) r l := by
  entry_read
  pointwise [tokenRow]

/-- The gain the kernel reads. -/
theorem gain_in (c : Dev nD) (l : Fin 1024) : V m c main_v14 (ix2 0 l) = m ((c : Thread nD τ).loc main_arg1) (ix2 0 l) := by
  entry_read
  pointwise

/-- The gate weights the kernel reads: chunk `d`, row `k`, column `j`. -/
theorem gate_in (c : Dev nD) (d : Fin 11) (k : Fin 1024) (j : Fin 256) :
    V m c main_v7 (ix3 d k j) = m ((c : Thread nD τ).loc main_arg2) (ix3 0 k ⟨d.val * 256 + j.val, by omega⟩) := by
  entry_read
  pointwise
  blk_ext

/-- The up weights the kernel reads. -/
theorem up_in (c : Dev nD) (d : Fin 11) (k : Fin 1024) (j : Fin 256) :
    V m c main_v11 (ix3 d k j) = m ((c : Thread nD τ).loc main_arg2) (ix3 0 k ⟨2816 + (d.val * 256 + j.val), by omega⟩) := by
  entry_read
  pointwise
  blk_ext

/-- The output weights the kernel reads. -/
theorem out_in (c : Dev nD) (d : Fin 11) (j : Fin 256) (q : Fin 1024) :
    V m c main_v13 (ix3 d j q) = m ((c : Thread nD τ).loc main_arg3) (ix3 0 ⟨d.val * 256 + j.val, by omega⟩ q) := by
  entry_read
  pointwise
  blk_ext

end Cert.FfnIdeal.Value

end
-- ==== Proof.FfnValue.lean ====
/-
  The array the feed-forward kernel returns: at every row and column it is the half step of that row.
-/
module

public import proofs.«01_k».proof.Proof.FfnBody
public import proofs.«01_k».proof.Proof.FfnEntry

@[expose] public section

set_option maxRecDepth 16384

noncomputable section

open Idealize.ShloMosaic Idealize.ShloMosaic.TcCoe Idealize.SL.Sem
open Idealize.ShloMosaic.Pipeline (Dat)

namespace Cert.FfnIdeal.Value
open Cert.FfnIdeal Cert.FfnIdeal.Gen Cert.Layer Cert.FfnIdeal.Body

variable (m : (ℓ : Loc nD τ sig) → Buf (Elt Ideal) ℓ)

/-- Where each window's block sits at a grid point. -/
theorem idx : ∀ t : Fin cfg0.N, win0_0.index t = ![t.val, 0] ∧ win0_1.index t = ![0, 0] ∧ win0_2.index t = ![0, 0, 0]
    ∧ win0_3.index t = ![0, 0, 0] ∧ win0_4.index t = ![0, 0, 0] ∧ win0_5.index t = ![t.val, 0] ∧ t.val < 64 :=
  (by decide +kernel : ∀ t : Fin grid0.N, _)

/-- The half step of every row, as one array. -/
def result (x : FVec Ideal S4x8192x1024 .f32) (g : FVec Ideal S1x1024 .f32) (wi : FVec Ideal S1x1024x5632 .f32) (wo : FVec Ideal S1x2816x1024 .f32) : FVec Ideal S32768x1024 .f32 :=
  fun i => ffnAt x g wi wo (i 0) (i 1)

/-- What a grid point stores at a row and a column of its block. -/
theorem point (c : Dev nD) (t : Fin cfg0.N) (r : Fin 512) (q : Fin 1024) (h : t.val * 512 + r.val < 32768) :
    out0_5 (F := Ideal) (iblk m c 0 t) (iblk m c 1 t) (iblk m c 2 t) (iblk m c 3 t) (iblk m c 4 t) (ix2 r q)
    = ffnAt (m ((c : Thread nD τ).loc main_arg0)) (m ((c : Thread nD τ).loc main_arg1)) (m ((c : Thread nD τ).loc main_arg2)) (m ((c : Thread nD τ).loc main_arg3)) ⟨t.val * 512 + r.val, h⟩ q := by
  have b0 : ∀ l : Fin 1024, iblk m c 0 t (ix2 r l) = tokenRow (m ((c : Thread nD τ).loc main_arg0)) ⟨t.val * 512 + r.val, h⟩ l := fun l => by
    refine Eq.trans ?_ (rows_in m c ⟨t.val * 512 + r.val, h⟩ l); blk_ext [iblk, idx t]
  have b1 : ∀ l : Fin 1024, iblk m c 1 t (ix2 0 l) = m ((c : Thread nD τ).loc main_arg1) (ix2 0 l) := fun l => by
    refine Eq.trans ?_ (gain_in m c l); blk_ext [iblk, idx t]
  have b2 : ∀ (d : Fin 11) (k : Fin 1024) (j : Fin 256), iblk m c 2 t (ix3 d k j) = m ((c : Thread nD τ).loc main_arg2) (ix3 0 k ⟨d.val * 256 + j.val, by omega⟩) := fun d k j => by
    refine Eq.trans ?_ (gate_in m c d k j); blk_ext [iblk, idx t]
  have b3 : ∀ (d : Fin 11) (k : Fin 1024) (j : Fin 256), iblk m c 3 t (ix3 d k j) = m ((c : Thread nD τ).loc main_arg2) (ix3 0 k ⟨2816 + (d.val * 256 + j.val), by omega⟩) := fun d k j => by
    refine Eq.trans ?_ (up_in m c d k j); blk_ext [iblk, idx t]
  have b4 : ∀ (d : Fin 11) (j : Fin 256), iblk m c 4 t (ix3 d j q) = m ((c : Thread nD τ).loc main_arg3) (ix3 0 ⟨d.val * 256 + j.val, by omega⟩ q) := fun d j => by
    refine Eq.trans ?_ (out_in m c d j q); blk_ext [iblk, idx t]
  refine (out_at (iblk m c 0 t) (iblk m c 1 t) (iblk m c 2 t) (iblk m c 3 t) (iblk m c 4 t) r q).trans ?_
  rw [ffnAt_chunks]
  simp only [b0, b1, b2, b3, b4]
  rfl

/-- The same at an index of the block, against the array. -/
theorem point_idx (c : Dev nD) (t : Fin cfg0.N) (y : S512x1024.Idx) :
    out0_5 (F := Ideal) (iblk m c 0 t) (iblk m c 1 t) (iblk m c 2 t) (iblk m c 3 t) (iblk m c 4 t) y
    = result (m ((c : Thread nD τ).loc main_arg0)) (m ((c : Thread nD τ).loc main_arg1)) (m ((c : Thread nD τ).loc main_arg2)) (m ((c : Thread nD τ).loc main_arg3)) (((cfg0.win 5).blk t).view.emb y) := by
  idx_vars y
  have ht := (idx t).2.2.2.2.2.2
  refine (point m c t y0 y1 (by omega)).trans ?_
  unfold result
  refine congrArg₂ (ffnAt _ _ _ _) (Fin.ext ?_) (Fin.ext ?_) <;> blk_simp [idx t] <;> try omega

/-- The array after the run. -/
theorem final (c : Dev nD) : (dats m 0 c).arrAt 5 (cfgs 0).N
    = result (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  exact point_idx m c t y

end Cert.FfnIdeal.Value

end
-- ==== Proof.FfnRef.lean ====
/-
  The feed-forward reference, read at a row and a column: the half step of that row.
-/
module

public import proofs.«01_k».proof.Proof.FfnSpec
public import proofs.«01_k».proof.Proof.Gen.FfnRefIdeal.Read

@[expose] public section

set_option maxRecDepth 16384

noncomputable section

open Idealize.ShloMosaic Idealize.ShloMosaic.TcCoe Idealize.SL.Sem

namespace Cert.FfnRefIdeal.At
open Cert.FfnRefIdeal Cert.FfnRefIdeal.Gen Cert.FfnRefIdeal.Read Cert.Layer

/-- The reference's result at a row and a column. -/
theorem result_at (x : FVec Ideal S4x8192x1024 .f32) (g : FVec Ideal S1x1024 .f32) (wi : FVec Ideal S1x1024x5632 .f32) (wo : FVec Ideal S1x2816x1024 .f32)
    (r : Fin 32768) (q : Fin 1024) :
    val_main_v25 (F := Ideal) x g wi wo (ix2 r q) = ffnAt x g wi wo r q := by
  pointwise [val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14, val_main_v15, val_main_v16, val_main_v17, val_main_v18, val_main_call0_v0, val_main_call0_v1, val_main_call0_cst, val_main_call0_v2, val_main_call0_v3, val_main_call0_cst_0, val_main_call0_v4, val_main_call0_v5, val_main_v19, val_main_v20, val_main_v21, val_main_v22, val_main_cst_2, val_main_v23, val_main_v24, val_main_v25, ffnAt, hiddenUnit, gated, Ideal.logistic, rowDot, rmsRow, tokenRow]

end Cert.FfnRefIdeal.At

end
-- ==== Proof.FfnClaim.lean ====
/-
  The value claim of the feed-forward kernel: run from the same arguments, the kernel and its reference return
  the same array.
-/
module

public import proofs.«01_k».proof.Defs
public import proofs.«01_k».proof.Proof.Gen.Ffn
public import proofs.«01_k».proof.Proof.FfnValue
public import proofs.«01_k».proof.Proof.FfnRef
public import proofs.«01_k».proof.Proof.Gen.FfnIdeal.Value
public import proofs.«01_k».proof.Proof.Gen.FfnRefIdeal.Run

@[expose] public section

set_option maxRecDepth 16384

noncomputable section

open Idealize.ShloMosaic Idealize.ShloMosaic.TcCoe Idealize.SL.Sem

namespace Cert.FfnClaim

/-- The reference's array is the one the kernel returns. -/
theorem reference_result (x : FVec Ideal Cert.FfnRefIdeal.S4x8192x1024 .f32) (g : FVec Ideal Cert.FfnRefIdeal.S1x1024 .f32)
    (wi : FVec Ideal Cert.FfnRefIdeal.S1x1024x5632 .f32) (wo : FVec Ideal Cert.FfnRefIdeal.S1x2816x1024 .f32) :
    Cert.FfnRefIdeal.Read.val_main_v25 (F := Ideal) x g wi wo = Cert.FfnIdeal.Value.result x g wi wo := by
  funext i
  idx_vars i
  exact Cert.FfnRefIdeal.At.result_at x g wi wo _ _

theorem algebraic : Cert.algebraic_FfnIdeal_FfnRefIdeal := by
  pair_intro
  · run_from Cert.FfnIdeal.Gen.run_main m g
  · run_from Cert.FfnRefIdeal.Value.run m' g'
    refine (Cert.FfnRefIdeal.Read.val_main_v25_eq _ _ _ _).trans ?_
    exact (reference_result _ _ _ _).trans (Cert.FfnIdeal.Value.final m c).symm

end Cert.FfnClaim

end
-- ==== Proof.MergeSpec.lean ====
/-
  The gated merge of the three branches as a formula: at row `r` and column `q`,
  `x + ∑ₖ m · w_out`, `m` the sum over the branches of the logistic of the branch's gate times the branch's
  product with its output weights.
-/
module

public import proofs.«01_k».proof.Proof.Base

@[expose] public section

set_option maxRecDepth 16384

noncomputable section

open Idealize.ShloMosaic Idealize.ShloMosaic.TcCoe Idealize.SL.Sem

namespace Cert.Layer

/-- One branch's share of the merged row: the logistic of `gate` times the product of the branch's row with its weights. -/
def gatedDot {n p : Nat} (hn wg : Fin n → EReal) (o w : Fin p → EReal) : EReal :=
  Ideal.logistic (rowDot hn wg) * rowDot o w

/-- The merged row `m` of row `r` at column `k`. -/
def mergedAt (x : (⟨2, ![32768, 1024]⟩ : Shape).Idx → EReal) (oa ol om : (⟨2, ![32768, 512]⟩ : Shape).Idx → EReal)
    (g : (⟨2, ![1, 1024]⟩ : Shape).Idx → EReal) (wi : (⟨3, ![1, 1024, 6728]⟩ : Shape).Idx → EReal)
    (wa wl wm : (⟨3, ![1, 512, 1024]⟩ : Shape).Idx → EReal) (r : Fin 32768) (k : Fin 1024) : EReal :=
  gatedDot (rmsRow (fun l => x (ix2 r l)) fun l => g (ix2 0 l)) (fun l => wi (ix3 0 l ⟨3656 + k.val, by omega⟩))
      (fun l => oa (ix2 r l)) (fun l => wa (ix3 0 l k))
    + gatedDot (rmsRow (fun l => x (ix2 r l)) fun l => g (ix2 0 l)) (fun l => wi (ix3 0 l ⟨3656 + (1024 + k.val), by omega⟩))
      (fun l => ol (ix2 r l)) (fun l => wl (ix3 0 l k))
    + gatedDot (rmsRow (fun l => x (ix2 r l)) fun l => g (ix2 0 l)) (fun l => wi (ix3 0 l ⟨3656 + (2048 + k.val), by omega⟩))
      (fun l => om (ix2 r l)) (fun l => wm (ix3 0 l k))

/-- The merge at a row and a column. -/
def mergeAt (x : (⟨2, ![32768, 1024]⟩ : Shape).Idx → EReal) (oa ol om : (⟨2, ![32768, 512]⟩ : Shape).Idx → EReal)
    (g : (⟨2, ![1, 1024]⟩ : Shape).Idx → EReal) (wi : (⟨3, ![1, 1024, 6728]⟩ : Shape).Idx → EReal)
    (wa wl wm : (⟨3, ![1, 512, 1024]⟩ : Shape).Idx → EReal) (wo : (⟨3, ![1, 1024, 1024]⟩ : Shape).Idx → EReal)
    (r : Fin 32768) (q : Fin 1024) : EReal :=
  x (ix2 r q) + ∑ k : Fin 1024, mergedAt x oa ol om g wi wa wl wm r k * wo (ix3 0 k q)

end Cert.Layer

end
-- ==== Proof.MergeBody.lean ====
/-
  What one grid point of the merge kernel stores: its 512 rows.
-/
module

public import proofs.«01_k».proof.Proof.MergeSpec
public import proofs.«01_k».proof.Proof.Gen.MergeIdeal.Frame

@[expose] public section

set_option maxRecDepth 16384

noncomputable section

open Idealize.ShloMosaic Idealize.ShloMosaic.TcCoe Idealize.SL.Sem

namespace Cert.MergeIdeal.Body
open Cert.MergeIdeal Cert.MergeIdeal.Gen Cert.Layer

/-- The normalised rows read at a row and a column. -/
theorem normed_at (x : FVec Ideal S512x1024 .f32) (g : FVec Ideal S1x1024 .f32) (r : Fin 512) (k : Fin 1024) :
    k0_pay2 (F := Ideal) x g (ix2 r k) = rmsRow (fun l => x (ix2 r l)) (fun l => g (ix2 0 l)) k := by
  pointwise [k0_pay2, rmsRow]

/-- The whole block stored at a grid point, read at a row and a column. -/
theorem out_at (x0 : FVec Ideal S512x1024 .f32) (x1 x2 x3 : FVec Ideal S512x512 .bf16) (x4 : FVec Ideal S1x1024 .f32) (x5 : FVec Ideal S1024x3072 .bf16)
    (x6 x7 x8 : FVec Ideal S512x1024 .bf16) (x9 : FVec Ideal S1024x1024 .bf16) (r : Fin 512) (q : Fin 1024) :
    out0_10 (F := Ideal) x0 x1 x2 x3 x4 x5 x6 x7 x8 x9 (ix2 r q) = x0 (ix2 r q) + ∑ k : Fin 1024,
      (gatedDot (rmsRow (fun l => x0 (ix2 r l)) fun l => x4 (ix2 0 l)) (fun l => x5 (ix2 l ⟨k.val, by omega⟩))
          (fun l => x1 (ix2 r l)) (fun l => x6 (ix2 l k))
        + gatedDot (rmsRow (fun l => x0 (ix2 r l)) fun l => x4 (ix2 0 l)) (fun l => x5 (ix2 l ⟨1024 + k.val, by omega⟩))
          (fun l => x2 (ix2 r l)) (fun l => x7 (ix2 l k))
        + gatedDot (rmsRow (fun l => x0 (ix2 r l)) fun l => x4 (ix2 0 l)) (fun l => x5 (ix2 l ⟨2048 + k.val, by omega⟩))
          (fun l => x3 (ix2 r l)) (fun l => x8 (ix2 l k))) * x9 (ix2 k q) := by
  unfold out0_10
  frame_out
  pointwise [k0_pay1, k0_pay3, k0_pay4, k0_pay5, normed_at, gatedDot, rowDot, r0_2, r0_4, r0_5]

end Cert.MergeIdeal.Body

end
-- ==== Proof.MergeEntry.lean ====
/-
  What the merge kernel reads: the host's slices, reshapes and casts of the arguments, entry by entry.
-/
module

public import proofs.«01_k».proof.Proof.MergeSpec
public import proofs.«01_k».proof.Proof.Gen.MergeIdeal.Value

@[expose] public section

set_option maxRecDepth 16384

noncomputable section

open Idealize.ShloMosaic Idealize.ShloMosaic.TcCoe Idealize.SL.Sem
open Idealize.ShloMosaic.Pipeline (Dat)

namespace Cert.MergeIdeal.Value
open Cert.MergeIdeal Cert.MergeIdeal.Gen Cert.Layer

variable (m : (ℓ : Loc nD τ sig) → Buf (Elt Ideal) ℓ)

/-- The gain the kernel reads. -/
theorem gain_in (c : Dev nD) (l : Fin 1024) : V m c main_v1 (ix2 0 l) = m ((c : Thread nD τ).loc main_arg4) (ix2 0 l) := by
  entry_read
  pointwise

/-- The gate weights the kernel reads: row `k`, column `j` of the last 3072 columns. -/
theorem gate_in (c : Dev nD) (k : Fin 1024) (j : Fin 3072) :
    V m c main_v4 (ix2 k j) = m ((c : Thread nD τ).loc main_arg5) (ix3 0 k ⟨3656 + j.val, by omega⟩) := by
  entry_read
  pointwise

/-- The attention branch's output weights. -/
theorem att_in (c : Dev nD) (k : Fin 512) (q : Fin 1024) :
    V m c main_v6 (ix2 k q) = m ((c : Thread nD τ).loc main_arg6) (ix3 0 k q) := by
  entry_read
  pointwise

/-- The recurrent branch's output weights. -/
theorem rec_in (c : Dev nD) (k : Fin 512) (q : Fin 1024) :
    V m c main_v8 (ix2 k q) = m ((c : Thread nD τ).loc main_arg7) (ix3 0 k q) := by
  entry_read
  pointwise

/-- The memory branch's output weights. -/
theorem mem_in (c : Dev nD) (k : Fin 512) (q : Fin 1024) :
    V m c main_v10 (ix2 k q) = m ((c : Thread nD τ).loc main_arg8) (ix3 0 k q) := by
  entry_read
  pointwise

/-- The output weights. -/
theorem out_in (c : Dev nD) (k : Fin 1024) (q : Fin 1024) :
    V m c main_v12 (ix2 k q) = m ((c : Thread nD τ).loc main_arg9) (ix3 0 k q) := by
  entry_read
  pointwise

end Cert.MergeIdeal.Value

end
-- ==== Proof.MergeValue.lean ====
/-
  The array the merge kernel returns: at every row and column it is the merge of that row.
-/
module

public import proofs.«01_k».proof.Proof.MergeBody
public import proofs.«01_k».proof.Proof.MergeEntry

@[expose] public section

set_option maxRecDepth 16384

noncomputable section

open Idealize.ShloMosaic Idealize.ShloMosaic.TcCoe Idealize.SL.Sem
open Idealize.ShloMosaic.Pipeline (Dat)

namespace Cert.MergeIdeal.Value
open Cert.MergeIdeal Cert.MergeIdeal.Gen Cert.Layer Cert.MergeIdeal.Body

variable (m : (ℓ : Loc nD τ sig) → Buf (Elt Ideal) ℓ)

/-- Where each window's block sits at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0] ∧ t.val < 64 :=
  (by decide +kernel : ∀ t : Fin grid0.N, _)

/-- The merge of every row, as one array. -/
def result (x : FVec Ideal S32768x1024 .f32) (oa ol om : FVec Ideal S32768x512 .bf16) (g : FVec Ideal S1x1024 .f32) (wi : FVec Ideal S1x1024x6728 .f32)
    (wa wl wm : FVec Ideal S1x512x1024 .f32) (wo : FVec Ideal S1x1024x1024 .f32) : FVec Ideal S32768x1024 .f32 :=
  fun i => mergeAt x oa ol om g wi wa wl wm wo (i 0) (i 1)

/-- The merge over the arguments the memory holds. -/
def resultOf (c : Dev nD) : FVec Ideal S32768x1024 .f32 :=
  result (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9))

/-- What a grid point stores at a row and a column of its block. -/
theorem point (c : Dev nD) (t : Fin cfg0.N) (r : Fin 512) (q : Fin 1024) (h : t.val * 512 + r.val < 32768) :
    out0_10 (F := Ideal) (iblk m c 0 t) (iblk m c 1 t) (iblk m c 2 t) (iblk m c 3 t) (iblk m c 4 t) (iblk m c 5 t) (iblk m c 6 t) (iblk m c 7 t)
      (iblk m c 8 t) (iblk m c 9 t) (ix2 r q)
    = resultOf m c (ix2 ⟨t.val * 512 + r.val, h⟩ q) := by
  have b0 : ∀ l : Fin 1024, iblk m c 0 t (ix2 r l) = m ((c : Thread nD τ).loc main_arg0) (ix2 ⟨t.val * 512 + r.val, h⟩ l) := fun l => by
    refine Eq.trans ?_ (congrFun (V_main_arg0 m c) (ix2 ⟨t.val * 512 + r.val, h⟩ l)); blk_ext [iblk, idx t]
  have b1 : ∀ l : Fin 512, iblk m c 1 t (ix2 r l) = m ((c : Thread nD τ).loc main_arg1) (ix2 ⟨t.val * 512 + r.val, h⟩ l) := fun l => by
    refine Eq.trans ?_ (congrFun (V_main_arg1 m c) (ix2 ⟨t.val * 512 + r.val, h⟩ l)); blk_ext [iblk, idx t]
  have b2 : ∀ l : Fin 512, iblk m c 2 t (ix2 r l) = m ((c : Thread nD τ).loc main_arg2) (ix2 ⟨t.val * 512 + r.val, h⟩ l) := fun l => by
    refine Eq.trans ?_ (congrFun (V_main_arg2 m c) (ix2 ⟨t.val * 512 + r.val, h⟩ l)); blk_ext [iblk, idx t]
  have b3 : ∀ l : Fin 512, iblk m c 3 t (ix2 r l) = m ((c : Thread nD τ).loc main_arg3) (ix2 ⟨t.val * 512 + r.val, h⟩ l) := fun l => by
    refine Eq.trans ?_ (congrFun (V_main_arg3 m c) (ix2 ⟨t.val * 512 + r.val, h⟩ l)); blk_ext [iblk, idx t]
  have b4 : ∀ l : Fin 1024, iblk m c 4 t (ix2 0 l) = m ((c : Thread nD τ).loc main_arg4) (ix2 0 l) := fun l => by
    refine Eq.trans ?_ (gain_in m c l); blk_ext [iblk, idx t]
  have b5 : ∀ (k : Fin 1024) (j : Fin 3072), iblk m c 5 t (ix2 k j) = m ((c : Thread nD τ).loc main_arg5) (ix3 0 k ⟨3656 + j.val, by omega⟩) := fun k j => by
    refine Eq.trans ?_ (gate_in m c k j); blk_ext [iblk, idx t]
  have b6 : ∀ (k : Fin 512) (j : Fin 1024), iblk m c 6 t (ix2 k j) = m ((c : Thread nD τ).loc main_arg6) (ix3 0 k j) := fun k j => by
    refine Eq.trans ?_ (att_in m c k j); blk_ext [iblk, idx t]
  have b7 : ∀ (k : Fin 512) (j : Fin 1024), iblk m c 7 t (ix2 k j) = m ((c : Thread nD τ).loc main_arg7) (ix3 0 k j) := fun k j => by
    refine Eq.trans ?_ (rec_in m c k j); blk_ext [iblk, idx t]
  have b8 : ∀ (k : Fin 512) (j : Fin 1024), iblk m c 8 t (ix2 k j) = m ((c : Thread nD τ).loc main_arg8) (ix3 0 k j) := fun k j => by
    refine Eq.trans ?_ (mem_in m c k j); blk_ext [iblk, idx t]
  have b9 : ∀ k : Fin 1024, iblk m c 9 t (ix2 k q) = m ((c : Thread nD τ).loc main_arg9) (ix3 0 k q) := fun k => by
    refine Eq.trans ?_ (out_in m c k q); blk_ext [iblk, idx t]
  refine (out_at (iblk m c 0 t) (iblk m c 1 t) (iblk m c 2 t) (iblk m c 3 t) (iblk m c 4 t) (iblk m c 5 t) (iblk m c 6 t) (iblk m c 7 t)
    (iblk m c 8 t) (iblk m c 9 t) r q).trans ?_
  simp only [b0, b1, b2, b3, b4, b5, b6, b7, b8, b9]
  rfl

/-- The same at an index of the block, against the array. -/
theorem point_idx (c : Dev nD) (t : Fin cfg0.N) (y : S512x1024.Idx) :
    out0_10 (F := Ideal) (iblk m c 0 t) (iblk m c 1 t) (iblk m c 2 t) (iblk m c 3 t) (iblk m c 4 t) (iblk m c 5 t) (iblk m c 6 t) (iblk m c 7 t)
      (iblk m c 8 t) (iblk m c 9 t) y
    = resultOf m c (((cfg0.win 10).blk t).view.emb y) := by
  idx_vars y
  have ht := (idx t).2.2.2.2.2.2.2.2.2.2.2
  refine (point m c t y0 y1 (by omega)).trans ?_
  unfold resultOf result
  refine congrArg₂ (mergeAt _ _ _ _ _ _ _ _ _ _) (Fin.ext ?_) (Fin.ext ?_) <;> blk_simp [idx t] <;> try omega

/-- The array after the run. -/
theorem final (c : Dev nD) : (dats m 0 c).arrAt 10 (cfgs 0).N = resultOf m c := by
  refine (dats m 0 c).arrAt_eq_of_covers 10 _ (by decide +kernel) fun t _ y => ?_
  blk_simp
  rw [after0_10]
  exact point_idx m c t y

end Cert.MergeIdeal.Value

end
-- ==== Proof.MergeRef.lean ====
/-
  The reference of the merge: its composed term, read at a row and a column, is the merge of that row.
-/
module

public import proofs.«01_k».proof.Proof.MergeSpec
public import proofs.«01_k».proof.Proof.Gen.MergeRefIdeal.Read

@[expose] public section

set_option maxRecDepth 16384

noncomputable section

open Idealize.ShloMosaic Idealize.ShloMosaic.TcCoe Idealize.SL.Sem

namespace Cert.MergeRefIdeal.At
open Cert.MergeRefIdeal Cert.MergeRefIdeal.Gen Cert.MergeRefIdeal.Read Cert.Layer

/-- The reference's result at a row and a column. -/
theorem result_at (x : FVec Ideal S32768x1024 .f32) (oa ol om : FVec Ideal S32768x512 .bf16) (g : FVec Ideal S1x1024 .f32) (wi : FVec Ideal S1x1024x6728 .f32)
    (wa wl wm : FVec Ideal S1x512x1024 .f32) (wo : FVec Ideal S1x1024x1024 .f32) (r : Fin 32768) (q : Fin 1024) :
    val_main_v46 (F := Ideal) x oa ol om g wi wa wl wm wo (ix2 r q) = mergeAt x oa ol om g wi wa wl wm wo r q := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_v15, val_main_v16, val_main_v17, val_main_v18, val_main_cst_2, val_main_v19, val_main_v20, val_main_cst_3, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, mergeAt, mergedAt, gatedDot, Ideal.logistic, rowDot, rmsRow]

end Cert.MergeRefIdeal.At

end
-- ==== Proof.MergeClaim.lean ====
/-
  The value claim of the merge kernel: run from the same arguments, the kernel and its reference return the
  same array.
-/
module

public import proofs.«01_k».proof.Defs
public import proofs.«01_k».proof.Proof.Gen.Merge
public import proofs.«01_k».proof.Proof.MergeValue
public import proofs.«01_k».proof.Proof.MergeRef
public import proofs.«01_k».proof.Proof.Gen.MergeIdeal.Value
public import proofs.«01_k».proof.Proof.Gen.MergeRefIdeal.Run

@[expose] public section

set_option maxRecDepth 16384

noncomputable section

open Idealize.ShloMosaic Idealize.ShloMosaic.TcCoe Idealize.SL.Sem

namespace Cert.MergeClaim

/-- The reference's array is the one the kernel returns. -/
theorem reference_result (x : FVec Ideal Cert.MergeRefIdeal.S32768x1024 .f32) (oa ol om : FVec Ideal Cert.MergeRefIdeal.S32768x512 .bf16)
    (g : FVec Ideal Cert.MergeRefIdeal.S1x1024 .f32) (wi : FVec Ideal Cert.MergeRefIdeal.S1x1024x6728 .f32)
    (wa wl wm : FVec Ideal Cert.MergeRefIdeal.S1x512x1024 .f32) (wo : FVec Ideal Cert.MergeRefIdeal.S1x1024x1024 .f32) :
    Cert.MergeRefIdeal.Read.val_main_v46 (F := Ideal) x oa ol om g wi wa wl wm wo = Cert.MergeIdeal.Value.result x oa ol om g wi wa wl wm wo := by
  funext i
  idx_vars i
  exact Cert.MergeRefIdeal.At.result_at x oa ol om g wi wa wl wm wo _ _

theorem algebraic : Cert.algebraic_MergeIdeal_MergeRefIdeal := by
  pair_intro
  · run_from Cert.MergeIdeal.Gen.run_main m g
  · run_from Cert.MergeRefIdeal.Value.run m' g'
    obtain ⟨h0, h1, h2, h3, h4, h5, h6, h7, h8, h9⟩ := hagree c
    rw [Cert.MergeRefIdeal.Read.val_main_v46_eq, h0, h1, h2, h3, h4, h5, h6, h7, h8, h9]
    exact (reference_result _ _ _ _ _ _ _ _ _ _).trans (Cert.MergeIdeal.Value.final m c).symm

end Cert.MergeClaim

end
-- ==== Proof.lean ====
/-
  The claim of this certificate. Six calls of one layer: the recurrent block (`Lru`), the attention over the
  memory tokens (`Cross`), the feed-forward block (`Ffn`), the gated merge of the three branches (`Merge`), the keys and
  values of the memory tokens (`MemKv`) and the projections of the prompt's tokens (`Proj`).
  Each kernel, and each reference, terminates with its arguments unchanged and its semaphores at zero; `Cross`,
  `Ffn` and `Merge` return the array their reference returns, and so do `MemKv` with its two arrays and `Proj` with its
  ten where the gain of the norm and the weights are finite.
-/
module

public import proofs.«01_k».proof.Defs
public import proofs.«01_k».proof.Proof.Gen.Lru
public import proofs.«01_k».proof.Proof.Gen.Lru.Frame
public import proofs.«01_k».proof.Proof.Gen.LruIdeal
public import proofs.«01_k».proof.Proof.Gen.LruIdeal.Frame
public import proofs.«01_k».proof.Proof.Gen.Cross
public import proofs.«01_k».proof.Proof.Gen.Cross.Frame
public import proofs.«01_k».proof.Proof.Gen.CrossIdeal
public import proofs.«01_k».proof.Proof.Gen.CrossIdeal.Frame
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MemKv
public import proofs.«01_k».proof.Proof.Gen.MemKv.Frame
public import proofs.«01_k».proof.Proof.Gen.MemKvIdeal
public import proofs.«01_k».proof.Proof.Gen.MemKvIdeal.Frame
public import proofs.«01_k».proof.Proof.Gen.MemKvRefIdeal
public import proofs.«01_k».proof.Proof.Gen.Pre_finite_weights
public import proofs.«01_k».proof.Proof.KvClaim
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjRefIdeal
public import proofs.«01_k».proof.Proof.Gen.Pre_finite_projection
public import proofs.«01_k».proof.Proof.ProjClaim
public import proofs.«01_k».proof.Proof.Gen.LruRefIdeal
public import proofs.«01_k».proof.Proof.Gen.CrossRefIdeal
public import proofs.«01_k».proof.Proof.Gen.FfnRefIdeal
public import proofs.«01_k».proof.Proof.Gen.MergeRefIdeal
public import proofs.«01_k».proof.Proof.References
public import proofs.«01_k».proof.Proof.CrossClaim
public import proofs.«01_k».proof.Proof.FfnClaim
public import proofs.«01_k».proof.Proof.MergeClaim

@[expose] public section

noncomputable section

namespace Cert.Proof

open Idealize.ShloMosaic Idealize.SL.Sem Cert.Lru

theorem claim : Cert.Claim := ⟨Cert.Lru.Gen.facts, Cert.LruIdeal.Gen.facts, Cert.LruRefIdeal.Gen.facts, Cert.Cross.Gen.facts, Cert.CrossIdeal.Gen.facts, Cert.CrossRefIdeal.Gen.facts, Cert.Ffn.Gen.facts, Cert.FfnIdeal.Gen.facts, Cert.FfnRefIdeal.Gen.facts, Cert.Merge.Gen.facts, Cert.MergeIdeal.Gen.facts, Cert.MergeRefIdeal.Gen.facts, Cert.MemKv.Gen.facts, Cert.MemKvIdeal.Gen.facts, Cert.MemKvRefIdeal.Gen.facts, Cert.Proj.Gen.facts, Cert.ProjIdeal.Gen.facts, Cert.ProjRefIdeal.Gen.facts, Cert.Pre_finite_weights.Gen.facts, Cert.Pre_finite_projection.Gen.facts,
  fun m ρ _ => Cert.Lru.Gen.frame m ρ, fun m ρ _ => Cert.LruIdeal.Gen.frame m ρ, Cert.References.lru,
  fun m ρ _ => Cert.Cross.Gen.frame m ρ, fun m ρ _ => Cert.CrossIdeal.Gen.frame m ρ, Cert.References.cross,
  fun m ρ _ => Cert.Ffn.Gen.frame m ρ, fun m ρ _ => Cert.FfnIdeal.Gen.frame m ρ, Cert.References.ffn,
  fun m ρ _ => Cert.Merge.Gen.frame m ρ, fun m ρ _ => Cert.MergeIdeal.Gen.frame m ρ, Cert.References.merge,
  fun m ρ _ => Cert.MemKv.Gen.frame m ρ, fun m ρ _ => Cert.MemKvIdeal.Gen.frame m ρ, fun m ρ _ => Cert.MemKvIdeal.Gen.frame m ρ, Cert.References.memKv, Cert.References.memKv_pre,
  fun m ρ _ => Cert.Proj.Gen.frame m ρ, fun m ρ _ => Cert.ProjIdeal.Gen.frame m ρ, fun m ρ _ => Cert.ProjIdeal.Gen.frame m ρ, Cert.References.proj, Cert.References.proj_pre,
  trivial, trivial, Cert.CrossClaim.algebraic, trivial, Cert.FfnClaim.algebraic, trivial, Cert.MergeClaim.algebraic, trivial, Cert.KvClaim.algebraic, trivial, Cert.ProjClaim.algebraic⟩

end Cert.Proof

end
